-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite_KernelIdeal [hPre_weights_finite_KernelIdeal : Cert.Pre_weights_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_weights_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_weights_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_weights_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite_ReferenceIdeal [hPre_weights_finite_ReferenceIdeal : Cert.Pre_weights_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_weights_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_weights_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_weights_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_weights_finite_KernelIdeal [hKernelIdeal : Cert.KernelIdeal.Facts] [hPre_weights_finite_KernelIdeal : Cert.Pre_weights_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_weights_finite_ReferenceIdeal [hReferenceIdeal : Cert.ReferenceIdeal.Facts] [hPre_weights_finite_ReferenceIdeal : Cert.Pre_weights_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_weights_finite_KernelIdeal [hKernelIdeal : Cert.KernelIdeal.Facts] [hReferenceIdeal : Cert.ReferenceIdeal.Facts] [hPre_weights_finite_KernelIdeal : Cert.Pre_weights_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v109) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_weights_finite_KernelIdeal : Cert.Pre_weights_finite_KernelIdeal.Facts) (hPre_weights_finite_ReferenceIdeal : Cert.Pre_weights_finite_ReferenceIdeal.Facts),
    quiescent_Kernel (hKernel := hKernel)
    ∧ quiescent_KernelIdeal (hKernelIdeal := hKernelIdeal)
    ∧ quiescent_KernelIdeal_pre_weights_finite_KernelIdeal (hKernelIdeal := hKernelIdeal) (hPre_weights_finite_KernelIdeal := hPre_weights_finite_KernelIdeal)
    ∧ quiescent_ReferenceIdeal (hReferenceIdeal := hReferenceIdeal)
    ∧ quiescent_ReferenceIdeal_pre_weights_finite_ReferenceIdeal (hReferenceIdeal := hReferenceIdeal) (hPre_weights_finite_ReferenceIdeal := hPre_weights_finite_ReferenceIdeal)
    ∧ preserves_Kernel_KernelIdeal
    ∧ algebraic_KernelIdeal_ReferenceIdeal_pre_weights_finite_KernelIdeal (hKernelIdeal := hKernelIdeal) (hReferenceIdeal := hReferenceIdeal) (hPre_weights_finite_KernelIdeal := hPre_weights_finite_KernelIdeal)
-- ==== Pre_weights_finite_KernelIdeal.lean ====
abbrev S2x256x512 : Shape := ⟨3, ![2, 256, 512]⟩
abbrev S512x256 : Shape := ⟨2, ![512, 256]⟩
abbrev S256x512 : Shape := ⟨2, ![256, 512]⟩
abbrev S2x128 : Shape := ⟨2, ![2, 128]⟩
abbrev S128x3072 : Shape := ⟨2, ![128, 3072]⟩
abbrev S512x512 : Shape := ⟨2, ![512, 512]⟩
abbrev S_ : Shape := ⟨0, ![]⟩

class Facts : Prop where
  bcast_S_S512x256 : S_.BroadcastsInDim S512x256 (![] : Fin 0 → Fin S512x256.rank)
  bcast_S_S2x128 : S_.BroadcastsInDim S2x128 (![] : Fin 0 → Fin S2x128.rank)
  bcast_S_S128x3072 : S_.BroadcastsInDim S128x3072 (![] : Fin 0 → Fin S128x3072.rank)

variable [Facts]

def fn {F : FTy → Type} [FloatOps F] (main_arg0 : FVec F S2x256x512 .bf16) (main_arg1 : FVec F S512x256 .bf16) (main_arg2 : FVec F S512x256 .bf16) (main_arg3 : FVec F S512x256 .bf16) (main_arg4 : FVec F S256x512 .bf16) (main_arg5 : FVec F S2x128 .bf16) (main_arg6 : FVec F S128x3072 .bf16) (main_arg7 : FVec F S512x512 .bf16) (main_arg8 : FVec F S512x512 .bf16) : IVec S512x256 1 × IVec S512x256 1 × IVec S2x128 1 × IVec S128x3072 1 :=
  let main_v0 : FVec F S512x256 .bf16 := Host.absf main_arg1
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_v3 : FVec F S512x256 .bf16 := Host.absf main_arg2
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x128 .bf16 := Host.absf main_arg5
  let main_cst_1 : FVec F S_ .bf16 := constant S_ .bf16 0x7F80#16
  let main_v7 : FVec F S2x128 .bf16 := broadcastInDim S2x128 ![] bcast_S_S2x128 main_cst_1
  let main_v8 : IVec S2x128 1 := cmpf .olt main_v6 main_v7
  let main_v9 : FVec F S128x3072 .bf16 := Host.absf main_arg6
  let main_cst_2 : FVec F S_ .bf16 := constant S_ .bf16 0x7F80#16
  let main_v10 : FVec F S128x3072 .bf16 := broadcastInDim S128x3072 ![] bcast_S_S128x3072 main_cst_2
  let main_v11 : IVec S128x3072 1 := cmpf .olt main_v9 main_v10
  (main_v2, main_v5, main_v8, main_v11)
-- ==== Pre_weights_finite_ReferenceIdeal.lean ====
abbrev S2x256x512 : Shape := ⟨3, ![2, 256, 512]⟩
abbrev S512x1024 : Shape := ⟨2, ![512, 1024]⟩
abbrev S1024x512 : Shape := ⟨2, ![1024, 512]⟩
abbrev S2x128 : Shape := ⟨2, ![2, 128]⟩
abbrev S128x3072 : Shape := ⟨2, ![128, 3072]⟩
abbrev S512x2048 : Shape := ⟨2, ![512, 2048]⟩
abbrev S2048x512 : Shape := ⟨2, ![2048, 512]⟩
abbrev S_ : Shape := ⟨0, ![]⟩

class Facts : Prop where
  bcast_S_S512x1024 : S_.BroadcastsInDim S512x1024 (![] : Fin 0 → Fin S512x1024.rank)
  bcast_S_S2x128 : S_.BroadcastsInDim S2x128 (![] : Fin 0 → Fin S2x128.rank)
  bcast_S_S128x3072 : S_.BroadcastsInDim S128x3072 (![] : Fin 0 → Fin S128x3072.rank)

variable [Facts]

def fn {F : FTy → Type} [FloatOps F] (main_arg0 : FVec F S2x256x512 .bf16) (main_arg1 : FVec F S512x1024 .bf16) (main_arg2 : FVec F S512x1024 .bf16) (main_arg3 : FVec F S512x1024 .bf16) (main_arg4 : FVec F S1024x512 .bf16) (main_arg5 : FVec F S2x128 .bf16) (main_arg6 : FVec F S128x3072 .bf16) (main_arg7 : FVec F S512x2048 .bf16) (main_arg8 : FVec F S2048x512 .bf16) : IVec S512x1024 1 × IVec S512x1024 1 × IVec S2x128 1 × IVec S128x3072 1 :=
  let main_v0 : FVec F S512x1024 .bf16 := Host.absf main_arg1
  let main_cst : FVec F S_ .bf16 := constant S_ .bf16 0x7F80#16
  let main_v1 : FVec F S512x1024 .bf16 := broadcastInDim S512x1024 ![] bcast_S_S512x1024 main_cst
  let main_v2 : IVec S512x1024 1 := cmpf .olt main_v0 main_v1
  let main_v3 : FVec F S512x1024 .bf16 := Host.absf main_arg2
  let main_cst_0 : FVec F S_ .bf16 := constant S_ .bf16 0x7F80#16
  let main_v4 : FVec F S512x1024 .bf16 := broadcastInDim S512x1024 ![] bcast_S_S512x1024 main_cst_0
  let main_v5 : IVec S512x1024 1 := cmpf .olt main_v3 main_v4
  let main_v6 : FVec F S2x128 .bf16 := Host.absf main_arg5
  let main_cst_1 : FVec F S_ .bf16 := constant S_ .bf16 0x7F80#16
  let main_v7 : FVec F S2x128 .bf16 := broadcastInDim S2x128 ![] bcast_S_S2x128 main_cst_1
  let main_v8 : IVec S2x128 1 := cmpf .olt main_v6 main_v7
  let main_v9 : FVec F S128x3072 .bf16 := Host.absf main_arg6
  let main_cst_2 : FVec F S_ .bf16 := constant S_ .bf16 0x7F80#16
  let main_v10 : FVec F S128x3072 .bf16 := broadcastInDim S128x3072 ![] bcast_S_S128x3072 main_cst_2
  let main_v11 : IVec S128x3072 1 := cmpf .olt main_v9 main_v10
  (main_v2, main_v5, main_v8, main_v11)
-- ==== Kernel.lean ====
abbrev S2x256x512 : Shape := ⟨3, ![2, 256, 512]⟩
abbrev S512x256 : Shape := ⟨2, ![512, 256]⟩
abbrev S256x512 : Shape := ⟨2, ![256, 512]⟩
abbrev S2x128 : Shape := ⟨2, ![2, 128]⟩
abbrev S128x3072 : Shape := ⟨2, ![128, 3072]⟩
abbrev S512x512 : Shape := ⟨2, ![512, 512]⟩
abbrev S16x256x512 : Shape := ⟨3, ![16, 256, 512]⟩
abbrev S8 : Shape := ⟨1, ![8]⟩
abbrev S_ : Shape := ⟨0, ![]⟩
abbrev S2x3072 : Shape := ⟨2, ![2, 3072]⟩
abbrev S1x256x512 : Shape := ⟨3, ![1, 256, 512]⟩
abbrev S1x512 : Shape := ⟨2, ![1, 512]⟩
abbrev S256 : Shape := ⟨1, ![256]⟩
abbrev S256x1 : Shape := ⟨2, ![256, 1]⟩
abbrev S256x256 : Shape := ⟨2, ![256, 256]⟩
abbrev S256x64 : Shape := ⟨2, ![256, 64]⟩
abbrev S1 : Shape := ⟨1, ![1]⟩

abbrev nBuf : Space → Nat
  | .hbm => 10
  | .vmem => 11
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S2x128, .bf16⟩
  | .hbm, ⟨6, _⟩ => ⟨S128x3072, .bf16⟩
  | .hbm, ⟨7, _⟩ => ⟨S512x512, .bf16⟩
  | .hbm, ⟨8, _⟩ => ⟨S512x512, .bf16⟩
  | .hbm, ⟨9, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x512, .bf16⟩
  | .local _ .vmem, ⟨5, _⟩ => ⟨S2x128, .bf16⟩
  | .local _ .vmem, ⟨6, _⟩ => ⟨S128x3072, .bf16⟩
  | .local _ .vmem, ⟨7, _⟩ => ⟨S512x512, .bf16⟩
  | .local _ .vmem, ⟨8, _⟩ => ⟨S512x512, .bf16⟩
  | .local _ .vmem, ⟨9, _⟩ => ⟨S2x256x512, .f32⟩
  | .local _ .vmem, ⟨10, _⟩ => ⟨S16x256x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_60 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_59 : BitVec 32 := 1#32
  let v149 : BitVec 32 := Scalar.muli v3 c1_i32_59
  let v150 : BitVec 32 := Scalar.addi c0_i32_60 v149
  v150.toNat
def k0_dev4 (d0 : Dev nD) : Nat :=
  let c0_i32_102 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_101 : BitVec 32 := 1#32
  let v281 : BitVec 32 := Scalar.muli v3 c1_i32_101
  let v282 : BitVec 32 := Scalar.addi c0_i32_102 v281
  v282.toNat
def k0_dev5 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_137 : BitVec 32 := 1#32
  let v313 : BitVec 32 := Scalar.muli v4 c1_i32_137
  let v314 : BitVec 32 := Scalar.addi c0_i32_138 v313
  v314.toNat
def k0_dev6 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_171 : BitVec 32 := 1#32
  let v345 : BitVec 32 := Scalar.muli v4 c1_i32_171
  let v346 : BitVec 32 := Scalar.addi c0_i32_172 v345
  v346.toNat
def k0_dev7 (d0 : Dev nD) : Nat :=
  let c0_i32_218 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_217 : BitVec 32 := 1#32
  let v419 : BitVec 32 := Scalar.muli v3 c1_i32_217
  let v420 : BitVec 32 := Scalar.addi c0_i32_218 v419
  v420.toNat
def k0_dev8 (d0 : Dev nD) : Nat :=
  let c0_i32_264 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_263 : BitVec 32 := 1#32
  let v493 : BitVec 32 := Scalar.muli v3 c1_i32_263
  let v494 : BitVec 32 := Scalar.addi c0_i32_264 v493
  v494.toNat
def k0_dev9 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_297 : BitVec 32 := 1#32
  let v525 : BitVec 32 := Scalar.muli v4 c1_i32_297
  let v526 : BitVec 32 := Scalar.addi c0_i32_298 v525
  v526.toNat
def k0_dev10 (d0 : Dev nD) : Nat :=
  let c0_i32_332 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_331 : BitVec 32 := 1#32
  let v557 : BitVec 32 := Scalar.muli v4 c1_i32_331
  let v558 : BitVec 32 := Scalar.addi c0_i32_332 v557
  v558.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S1024x512 : Shape := ⟨2, ![1024, 512]⟩
abbrev S2x128 : Shape := ⟨2, ![2, 128]⟩
abbrev S128x3072 : Shape := ⟨2, ![128, 3072]⟩
abbrev S512x2048 : Shape := ⟨2, ![512, 2048]⟩
abbrev S2048x512 : Shape := ⟨2, ![2048, 512]⟩
abbrev S2x3072 : Shape := ⟨2, ![2, 3072]⟩
abbrev S2x512 : Shape := ⟨2, ![2, 512]⟩
abbrev S_ : Shape := ⟨0, ![]⟩
abbrev S2x256 : Shape := ⟨2, ![2, 256]⟩
abbrev S2x256x1 : Shape := ⟨3, ![2, 256, 1]⟩
abbrev S2x1x512 : Shape := ⟨3, ![2, 1, 512]⟩
abbrev S2x256x1024 : Shape := ⟨3, ![2, 256, 1024]⟩
abbrev S2x256x16x64 : Shape := ⟨4, ![2, 256, 16, 64]⟩
abbrev S2x16x256x1 : Shape := ⟨4, ![2, 16, 256, 1]⟩
abbrev S2x16x256x256 : Shape := ⟨4, ![2, 16, 256, 256]⟩
abbrev S2x16x256 : Shape := ⟨3, ![2, 16, 256]⟩
abbrev S2x256x16x1 : Shape := ⟨4, ![2, 256, 16, 1]⟩
abbrev S2x16x64x256 : Shape := ⟨4, ![2, 16, 64, 256]⟩
abbrev S2x256x2048 : Shape := ⟨3, ![2, 256, 2048]⟩

abbrev nBuf : Space → Nat
  | .hbm => 182
  | .vmem => 0
  | .smem => 0
  | _ => 0

abbrev hbmTy0_0 (i : Nat) : BufTy := match i % 128 with
  | 0 => ⟨S2x256x512, .bf16⟩
  | 1 => ⟨S512x1024, .bf16⟩
  | 2 => ⟨S512x1024, .bf16⟩
  | 3 => ⟨S512x1024, .bf16⟩
  | 4 => ⟨S1024x512, .bf16⟩
  | 5 => ⟨S2x128, .bf16⟩
  | 6 => ⟨S128x3072, .bf16⟩
  | 7 => ⟨S512x2048, .bf16⟩
  | 8 => ⟨S2048x512, .bf16⟩
  | 9 => ⟨S2x3072, .f32⟩
  | 10 => ⟨S2x3072, .bf16⟩
  | 11 => ⟨S2x512, .bf16⟩
  | 12 => ⟨S2x512, .bf16⟩
  | 13 => ⟨S2x512, .bf16⟩
  | 14 => ⟨S2x512, .bf16⟩
  | 15 => ⟨S2x512, .bf16⟩
  | 16 => ⟨S2x512, .bf16⟩
  | 17 => ⟨S2x256x512, .f32⟩
  | 18 => ⟨S_, .f32⟩
  | 19 => ⟨S2x256, .f32⟩
  | 20 => ⟨S2x256x1, .f32⟩
  | 21 => ⟨S_, .f32⟩
  | 22 => ⟨S2x256x1, .f32⟩
  | 23 => ⟨S2x256x1, .f32⟩
  | 24 => ⟨S2x256x1, .bf16⟩
  | 25 => ⟨S_, .i32⟩
  | 26 => ⟨S2x256x512, .f32⟩
  | 27 => ⟨S_, .f32⟩
  | 28 => ⟨S2x256, .f32⟩
  | 29 => ⟨S2x256x1, .f32⟩
  | 30 => ⟨S_, .f32⟩
  | 31 => ⟨S2x256x1, .f32⟩
  | 32 => ⟨S2x256x1, .f32⟩
  | 33 => ⟨S2x256x512, .f32⟩
  | 34 => ⟨S2x256x512, .f32⟩
  | 35 => ⟨S2x256x512, .f32⟩
  | 36 => ⟨S_, .f32⟩
  | 37 => ⟨S_, .f32⟩
  | 38 => ⟨S_, .f32⟩
  | 39 => ⟨S_, .f32⟩
  | 40 => ⟨S2x256, .f32⟩
  | 41 => ⟨S2x256x1, .f32⟩
  | 42 => ⟨S2x256x1, .f32⟩
  | 43 => ⟨S2x256x1, .f32⟩
  | 44 => ⟨S2x256x1, .bf16⟩
  | 45 => ⟨S_, .f32⟩
  | 46 => ⟨S_, .i1⟩
  | 47 => ⟨S_, .f32⟩
  | 48 => ⟨S_, .bf16⟩
  | 49 => ⟨S2x256x1, .bf16⟩
  | 50 => ⟨S2x256x1, .bf16⟩
  | 51 => ⟨S2x256x512, .bf16⟩
  | 52 => ⟨S2x256x512, .bf16⟩
  | 53 => ⟨S_, .bf16⟩
  | 54 => ⟨S2x256x1, .bf16⟩
  | 55 => ⟨S2x256x1, .bf16⟩
  | 56 => ⟨S2x256x1, .bf16⟩
  | 57 => ⟨S2x256x512, .bf16⟩
  | 58 => ⟨S2x256x512, .bf16⟩
  | 59 => ⟨S2x1x512, .bf16⟩
  | 60 => ⟨S_, .bf16⟩
  | 61 => ⟨S2x1x512, .bf16⟩
  | 62 => ⟨S2x1x512, .bf16⟩
  | 63 => ⟨S2x256x512, .bf16⟩
  | 64 => ⟨S2x256x512, .bf16⟩
  | 65 => ⟨S2x1x512, .bf16⟩
  | 66 => ⟨S2x256x512, .bf16⟩
  | 67 => ⟨S2x256x512, .bf16⟩
  | 68 => ⟨S2x256x1024, .f32⟩
  | 69 => ⟨S2x256x1024, .bf16⟩
  | 70 => ⟨S2x256x16x64, .bf16⟩
  | 71 => ⟨S2x256x1024, .f32⟩
  | 72 => ⟨S2x256x1024, .bf16⟩
  | 73 => ⟨S2x256x16x64, .bf16⟩
  | 74 => ⟨S2x256x1024, .f32⟩
  | 75 => ⟨S2x256x1024, .bf16⟩
  | 76 => ⟨S2x256x16x64, .bf16⟩
  | 77 => ⟨S_, .f32⟩
  | 78 => ⟨S2x256x16x64, .f32⟩
  | 79 => ⟨S_, .f32⟩
  | 80 => ⟨S2x16x256x1, .f32⟩
  | 81 => ⟨S_, .f32⟩
  | 82 => ⟨S2x16x256x1, .f32⟩
  | 83 => ⟨S2x16x256x256, .f32⟩
  | 84 => ⟨S2x16x256x256, .bf16⟩
  | 85 => ⟨S2x16x256x256, .f32⟩
  | 86 => ⟨S_, .f32⟩
  | 87 => ⟨S2x16x256x256, .f32⟩
  | 88 => ⟨S2x16x256x256, .f32⟩
  | 89 => ⟨S_, .f32⟩
  | 90 => ⟨S2x16x256, .f32⟩
  | 91 => ⟨S2x16x256x1, .f32⟩
  | 92 => ⟨S2x16x256x1, .f32⟩
  | 93 => ⟨S2x16x256x1, .f32⟩
  | 94 => ⟨S2x16x256x1, .f32⟩
  | 95 => ⟨S2x16x256x256, .f32⟩
  | 96 => ⟨S2x16x256x256, .f32⟩
  | 97 => ⟨S2x16x256x256, .f32⟩
  | 98 => ⟨S2x16x256x1, .f32⟩
  | 99 => ⟨S_, .f32⟩
  | 100 => ⟨S2x16x256, .f32⟩
  | 101 => ⟨S2x16x256x1, .f32⟩
  | 102 => ⟨S2x16x256x1, .f32⟩
  | 103 => ⟨S2x256x16x1, .f32⟩
  | 104 => ⟨S2x256x16x64, .f32⟩
  | 105 => ⟨S2x256x16x64, .f32⟩
  | 106 => ⟨S2x16x64x256, .f32⟩
  | 107 => ⟨S2x256x16x64, .f32⟩
  | 108 => ⟨S2x256x16x64, .f32⟩
  | 109 => ⟨S2x256x16x1, .f32⟩
  | 110 => ⟨S2x256x16x64, .f32⟩
  | 111 => ⟨S2x256x16x64, .f32⟩
  | 112 => ⟨S2x256x1024, .f32⟩
  | 113 => ⟨S2x256x512, .f32⟩
  | 114 => ⟨S2x1x512, .bf16⟩
  | 115 => ⟨S2x1x512, .f32⟩
  | 116 => ⟨S2x256x512, .f32⟩
  | 117 => ⟨S2x256x512, .f32⟩
  | 118 => ⟨S2x256x512, .f32⟩
  | 119 => ⟨S2x256x512, .f32⟩
  | 120 => ⟨S_, .f32⟩
  | 121 => ⟨S2x256, .f32⟩
  | 122 => ⟨S2x256x1, .f32⟩
  | 123 => ⟨S_, .f32⟩
  | 124 => ⟨S2x256x1, .f32⟩
  | 125 => ⟨S2x256x1, .f32⟩
  | 126 => ⟨S_, .i32⟩
  | 127 => ⟨S_, .f32⟩
  | _ => ⟨S2x256x512, .bf16⟩

abbrev hbmTy0_1 (i : Nat) : BufTy := match i % 128 with
  | 0 => ⟨S2x256, .f32⟩
  | 1 => ⟨S2x256x1, .f32⟩
  | 2 => ⟨S_, .f32⟩
  | 3 => ⟨S2x256x1, .f32⟩
  | 4 => ⟨S2x256x1, .f32⟩
  | 5 => ⟨S2x256x512, .f32⟩
  | 6 => ⟨S2x256x512, .f32⟩
  | 7 => ⟨S2x256x512, .f32⟩
  | 8 => ⟨S_, .f32⟩
  | 9 => ⟨S_, .f32⟩
  | 10 => ⟨S_, .f32⟩
  | 11 => ⟨S_, .f32⟩
  | 12 => ⟨S2x256, .f32⟩
  | 13 => ⟨S2x256x1, .f32⟩
  | 14 => ⟨S2x256x1, .f32⟩
  | 15 => ⟨S2x256x1, .f32⟩
  | 16 => ⟨S_, .f32⟩
  | 17 => ⟨S_, .i1⟩
  | 18 => ⟨S_, .f32⟩
  | 19 => ⟨S_, .f32⟩
  | 20 => ⟨S2x256x1, .f32⟩
  | 21 => ⟨S2x256x1, .f32⟩
  | 22 => ⟨S2x256x512, .f32⟩
  | 23 => ⟨S2x256x512, .f32⟩
  | 24 => ⟨S_, .f32⟩
  | 25 => ⟨S2x256x1, .f32⟩
  | 26 => ⟨S2x256x1, .f32⟩
  | 27 => ⟨S2x256x1, .f32⟩
  | 28 => ⟨S2x256x512, .f32⟩
  | 29 => ⟨S2x256x512, .f32⟩
  | 30 => ⟨S2x1x512, .bf16⟩
  | 31 => ⟨S_, .bf16⟩
  | 32 => ⟨S2x1x512, .bf16⟩
  | 33 => ⟨S2x1x512, .bf16⟩
  | 34 => ⟨S2x1x512, .f32⟩
  | 35 => ⟨S2x256x512, .f32⟩
  | 36 => ⟨S2x256x512, .f32⟩
  | 37 => ⟨S2x1x512, .bf16⟩
  | 38 => ⟨S2x1x512, .f32⟩
  | 39 => ⟨S2x256x512, .f32⟩
  | 40 => ⟨S2x256x512, .f32⟩
  | 41 => ⟨S2x256x2048, .f32⟩
  | 42 => ⟨S2x256x2048, .f32⟩
  | 43 => ⟨S2x256x2048, .f32⟩
  | 44 => ⟨S_, .f32⟩
  | 45 => ⟨S2x256x2048, .f32⟩
  | 46 => ⟨S2x256x2048, .f32⟩
  | 47 => ⟨S2x256x2048, .f32⟩
  | 48 => ⟨S2x1x512, .bf16⟩
  | 49 => ⟨S2x256x512, .f32⟩
  | 50 => ⟨S2x1x512, .f32⟩
  | 51 => ⟨S2x256x512, .f32⟩
  | 52 => ⟨S2x256x512, .f32⟩
  | 53 => ⟨S2x256x512, .f32⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_call0_cst_0 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_cst_1 : Ref sig .tc := ⟨.hbm, 37, rfl⟩
abbrev main_call0_v9 : Ref sig .tc := ⟨.hbm, 38, rfl⟩
abbrev main_call0_cst_2 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst_3 : Ref sig .tc := ⟨.hbm, 45, rfl⟩
abbrev main_call0_v15 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_1 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_2 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_3 : Ref sig .tc := ⟨.hbm, 77, rfl⟩
abbrev main_v39 : Ref sig .tc := ⟨.hbm, 78, rfl⟩
abbrev main_cst_4 : Ref sig .tc := ⟨.hbm, 79, rfl⟩
abbrev main_v40 : Ref sig .tc := ⟨.hbm, 80, rfl⟩
abbrev main_cst_5 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_6 : Ref sig .tc := ⟨.hbm, 86, rfl⟩
abbrev main_v45 : Ref sig .tc := ⟨.hbm, 87, rfl⟩
abbrev main_v46 : Ref sig .tc := ⟨.hbm, 88, rfl⟩
abbrev main_cst_7 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_8 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_9 : Ref sig .tc := ⟨.hbm, 120, rfl⟩
abbrev main_v76 : Ref sig .tc := ⟨.hbm, 121, rfl⟩
abbrev main_v77 : Ref sig .tc := ⟨.hbm, 122, rfl⟩
abbrev main_cst_10 : Ref sig .tc := ⟨.hbm, 123, rfl⟩
abbrev main_v78 : Ref sig .tc := ⟨.hbm, 124, rfl⟩
abbrev main_v79 : Ref sig .tc := ⟨.hbm, 125, rfl⟩
abbrev main_c_11 : Ref sig .tc := ⟨.hbm, 126, rfl⟩
abbrev main_call1_cst : Ref sig .tc := ⟨.hbm, 127, rfl⟩
abbrev main_call1_v0 : Ref sig .tc := ⟨.hbm, 128, rfl⟩
abbrev main_call1_v1 : Ref sig .tc := ⟨.hbm, 129, rfl⟩
abbrev main_call1_cst_0 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_v6 : Ref sig .tc := ⟨.hbm, 135, rfl⟩
abbrev main_call1_v7 : Ref sig .tc := ⟨.hbm, 136, rfl⟩
abbrev main_call1_cst_1 : Ref sig .tc := ⟨.hbm, 137, rfl⟩
abbrev main_call1_v8 : Ref sig .tc := ⟨.hbm, 138, rfl⟩
abbrev main_call1_cst_2 : Ref sig .tc := ⟨.hbm, 139, rfl⟩
abbrev main_call1_v9 : Ref sig .tc := ⟨.hbm, 140, rfl⟩
abbrev main_call1_v10 : Ref sig .tc := ⟨.hbm, 141, rfl⟩
abbrev main_call1_v11 : Ref sig .tc := ⟨.hbm, 142, rfl⟩
abbrev main_call1_v12 : Ref sig .tc := ⟨.hbm, 143, rfl⟩
abbrev main_call1_cst_3 : Ref sig .tc := ⟨.hbm, 144, rfl⟩
abbrev main_call1_v13 : Ref sig .tc := ⟨.hbm, 145, rfl⟩
abbrev main_call1_cst_4 : Ref sig .tc := ⟨.hbm, 146, rfl⟩
abbrev main_call1_call0_v0 : Ref sig .tc := ⟨.hbm, 147, rfl⟩
abbrev main_call1_call0_v1 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_cst_12 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_cst_13 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_cst_14 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩

abbrev nD : Nat := 1
abbrev τ : Topo := Topo.v7x

variable {F : FTy → Type} [FloatOps F]
-- ==== Proof.KI.Ring.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

/-!
# The eight exchanges and the entry handshake

Four devices, each with two partners: `pa c = 3 - c` and `pb c = c xor 1`. The scratch buffer holds sixteen slots of one
256 x 512 block; exchange `e` (0 to 7) copies slot `2e` of a device into slot `2e + 1` of its partner `pt e`, with the
send semaphore `e` and the receive semaphore `e`. Exchanges 0, 1, 4, 5 go to `pa`, exchanges 2, 3, 6, 7 to `pb`.

Before the first copy every device signals the barrier semaphore of both partners once and waits for two on its own.

* barrier cell of `c`: one unit from `pa c`, handing over the four landing slots of `pa c` that `c` copies into, and one from
  `pb c`, handing over its other four;
* send cell `e` of `c`: the copy's credit, handing back slot `2e` of `c` with its contents `X e c`;
* receive cell `e` of `c`: the copy's credit, handing over slot `2e + 1` of `c` with the partner's contents `X e (pt e c)`.

Levels: barrier 1, receive `e` at `2 + e`, everything else 0. When a device waits on receive cell `e` it only owes receive
cells `e + 2` and later.
-/

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners -/

set_option backward.proofsInPublic true in
def pa (c : Dev nD) : Dev nD := ⟨3 - c.val, by show 3 - c.val < 4; omega⟩
/-- `c xor 1`: 0 and 1 swapped, 2 and 3 swapped. -/
def pb : Dev nD → Dev nD := ![(1 : Fin 4), (0 : Fin 4), (3 : Fin 4), (2 : Fin 4)]
theorem pa_pa (c : Dev nD) : pa (pa c) = c := by revert c; decide
theorem pb_pb (c : Dev nD) : pb (pb c) = c := by revert c; decide

/-- Exchanges 0, 1, 4, 5 go to `pa`. -/
def isA (e : Fin 8) : Bool := e.val % 4 < 2
def pt (e : Fin 8) (c : Dev nD) : Dev nD := if isA e then pa c else pb c
theorem pt_pt (e : Fin 8) (c : Dev nD) : pt e (pt e c) = c := by
  unfold pt; split
  · exact pa_pa c
  · exact pb_pb c
theorem pt_a {e : Fin 8} (h : isA e = true) (c : Dev nD) : pt e c = pa c := if_pos h
theorem pt_b {e : Fin 8} (h : isA e = false) (c : Dev nD) : pt e c = pb c := if_neg (by rw [h]; exact Bool.false_ne_true)

theorem dev1_eq (c : Dev nD) : (⟨k0_dev1 c, k0_dev1_lt c⟩ : Dev nD) = pa c := Fin.ext (by revert c; decide +kernel)
theorem dev2_eq (c : Dev nD) : (⟨k0_dev2 c, k0_dev2_lt c⟩ : Dev nD) = pb c := Fin.ext (by revert c; decide +kernel)
theorem dev3_eq (c : Dev nD) : (⟨k0_dev3 c, k0_dev3_lt c⟩ : Dev nD) = pt 0 c := Fin.ext (by revert c; decide +kernel)
theorem dev4_eq (c : Dev nD) : (⟨k0_dev4 c, k0_dev4_lt c⟩ : Dev nD) = pt 1 c := Fin.ext (by revert c; decide +kernel)
theorem dev5_eq (c : Dev nD) : (⟨k0_dev5 c, k0_dev5_lt c⟩ : Dev nD) = pt 2 c := Fin.ext (by revert c; decide +kernel)
theorem dev6_eq (c : Dev nD) : (⟨k0_dev6 c, k0_dev6_lt c⟩ : Dev nD) = pt 3 c := Fin.ext (by revert c; decide +kernel)
theorem dev7_eq (c : Dev nD) : (⟨k0_dev7 c, k0_dev7_lt c⟩ : Dev nD) = pt 4 c := Fin.ext (by revert c; decide +kernel)
theorem dev8_eq (c : Dev nD) : (⟨k0_dev8 c, k0_dev8_lt c⟩ : Dev nD) = pt 5 c := Fin.ext (by revert c; decide +kernel)
theorem dev9_eq (c : Dev nD) : (⟨k0_dev9 c, k0_dev9_lt c⟩ : Dev nD) = pt 6 c := Fin.ext (by revert c; decide +kernel)
theorem dev10_eq (c : Dev nD) : (⟨k0_dev10 c, k0_dev10_lt c⟩ : Dev nD) = pt 7 c := Fin.ext (by revert c; decide +kernel)

/-! ## Slots -/

abbrev cM : Memref sig .tc .vmem S16x256x512 .bf16 := Memref.whole cc0_scratch0

theorem slot_inb (i : Fin 16) : ∀ a, (![i.val, 0, 0] : Fin 3 → Nat) a + S1x256x512.size a ≤ S16x256x512.size a := by revert i; decide
abbrev slotR (i : Fin 16) : Rect S16x256x512 := Rect.unit (s := S16x256x512) ![i.val, 0, 0] S1x256x512.size (slot_inb i)
abbrev slotV (i : Fin 16) : View sig .tc .vmem S1x256x512 .bf16 := cM.access (slotR i)
abbrev slotM (i : Fin 16) : Memref sig .tc .vmem S256x512 .bf16 := (cM.slice (slotR i) (fun _ => rfl)).squeeze S256x512 squeezes_S1x256x512_S256x512

/-- One block, as the slots hold it. -/
abbrev Blk (F : FTy → Type) : Type := S1x256x512.Idx → Elt F .bf16

/-- Slot `i` of device `c`, held whole, reads `v`. -/
def slotPts (c : Dev nD) (i : Fin 16) (v : Blk F) : sProp 𝕄 :=
  iprop(∃ f : Buf (Elt F) ((c : Thread nD τ).loc cc0_scratch0), ⌜(slotV i).read (Elt F) f = v⌝ ∗ (((c : Thread nD τ).loc cc0_scratch0) ↦[(slotV i).set]{fullShare} f))
/-- Slot `i` of device `c`, held whole, at any contents. -/
def slotAny (c : Dev nD) (i : Fin 16) : sProp 𝕄 :=
  iprop(∃ f : Buf (Elt F) ((c : Thread nD τ).loc cc0_scratch0), (((c : Thread nD τ).loc cc0_scratch0) ↦[(slotV i).set]{fullShare} f))

omit [FloatOps F] in
instance slotPts_storable (c : Dev nD) (i v) : BI.Storable (upEmb : UEmb _ 𝕄) (slotPts (F := F) c i v) := by unfold slotPts; infer_instance
omit [FloatOps F] in
instance slotAny_storable (c : Dev nD) (i) : BI.Storable (upEmb : UEmb _ 𝕄) (slotAny (F := F) c i) := by unfold slotAny; infer_instance

omit [FloatOps F] in
theorem slotPts_any (c : Dev nD) (i : Fin 16) (v : Blk F) : slotPts c i v ⊢ slotAny c i := by
  unfold slotPts slotAny; iintro ⟨%f, -, H⟩; iexists f; iexact H

theorem slot_set (i : Fin 16) : (slotV i).set = (slotR i).set := View.set_slice_whole _ _
theorem slotM_set (i : Fin 16) : (slotM i).view.set = (slotV i).set := View.set_reshape _ _

theorem slot_disjoint (i j : Fin 16) (h : i ≠ j) : Disjoint (slotR i).set (slotR j).set := by
  rw [Finset.disjoint_left]
  intro x hx hy
  have h1 : i.val ≤ (x 0).val ∧ (x 0).val < i.val + 1 := (Rect.mem_set_unit.mp hx) 0
  have h2 : j.val ≤ (x 0).val ∧ (x 0).val < j.val + 1 := (Rect.mem_set_unit.mp hy) 0
  exact h (Fin.ext (by omega))

theorem slot_cover : (Finset.univ.biUnion fun i : Fin 16 => (slotR i).set) = Finset.univ := by
  refine Finset.eq_univ_of_forall fun x => ?_
  rw [Finset.mem_biUnion]
  refine ⟨⟨(x 0).val, (x 0).isLt⟩, Finset.mem_univ _, Rect.mem_set_unit.mpr fun a => ?_⟩
  have h1 := (x 1).isLt
  have h2 := (x 2).isLt
  fin_cases a
  · exact ⟨le_rfl, Nat.lt_succ_self _⟩
  · exact ⟨Nat.zero_le _, by simpa using h1⟩
  · exact ⟨Nat.zero_le _, by simpa using h2⟩

omit [FloatOps F] in
/-- The whole scratch buffer is its sixteen slots; -/
theorem scratch_split (c : Dev nD) : (iprop(∃ f : Buf (Elt F) ((c : Thread nD τ).loc cc0_scratch0), ((c : Thread nD τ).loc cc0_scratch0) ↦{fullShare} f) : sProp 𝕄)
    ⊢ bigSep Finset.univ fun i : Fin 16 => slotAny (F := F) c i := by
  refine exists_elim fun f => ?_
  rw [Idealize.ShloMosaic.Ring.pointsTo_blocks (ℓ := (c : Thread nD τ).loc cc0_scratch0) (fun i : Fin 16 => (slotR i).set) slot_disjoint slot_cover f]
  have hm : ∀ i ∈ (Finset.univ : Finset (Fin 16)), (((c : Thread nD τ).loc cc0_scratch0) ↦[(slotR i).set]{fullShare} f : sProp 𝕄) ⊢ slotAny (F := F) c i := by
    intro i _; unfold slotAny; rw [slot_set]; iintro H; iexists f; iexact H
  exact (bigSep_mono hm)

omit [FloatOps F] in
/-- and the sixteen slots are the whole again. -/
theorem scratch_join (c : Dev nD) : (bigSep Finset.univ fun i : Fin 16 => slotAny (F := F) c i)
    ⊢ (iprop(∃ f : Buf (Elt F) ((c : Thread nD τ).loc cc0_scratch0), ((c : Thread nD τ).loc cc0_scratch0) ↦{fullShare} f) : sProp 𝕄) := by
  iintro H
  ihave H0 := (show (bigSep Finset.univ fun i : Fin 16 => slotAny (F := F) c i) ⊢ iprop((bigSep Finset.univ fun i : Fin 16 => slotAny (F := F) c i) ∗ ⌜Nonempty (Buf (Elt F) ((c : Thread nD τ).loc cc0_scratch0))⌝) from by
    rw [bigSep_univ_at _ (0 : Fin 16)]; unfold slotAny
    iintro ⟨⟨%f, H⟩, Hr⟩
    isplitl
    · isplitl [H]; · iexists f; iexact H
      iexact Hr
    · ipureintro; exact ⟨f⟩) $$ H
  icases H0 with ⟨H, %hne⟩
  obtain ⟨f0⟩ := hne
  have hm : ∀ i ∈ (Finset.univ : Finset (Fin 16)), slotAny (F := F) c i ⊢ (iprop(∃ f, ((c : Thread nD τ).loc cc0_scratch0) ↦[(slotR i).set]{fullShare} f) : sProp 𝕄) := by
    intro i _; unfold slotAny; rw [slot_set]
  have hj : (bigSep Finset.univ fun i : Fin 16 => slotAny (F := F) c i)
      ⊢ (iprop(∃ f : Buf (Elt F) ((c : Thread nD τ).loc cc0_scratch0), ((c : Thread nD τ).loc cc0_scratch0) ↦{fullShare} f) : sProp 𝕄) := (bigSep_mono hm).trans (Idealize.ShloMosaic.Ring.pointsTo_blocks_join_exists (ℓ := (c : Thread nD τ).loc cc0_scratch0) (fun i : Fin 16 => (slotR i).set) slot_disjoint slot_cover f0)
  iapply hj; iexact H

omit [FloatOps F] in
/-- What is written through a squeezed slot and what is read through another agree with the slots themselves. -/
theorem slot_copy (i j : Fin 16) (fd fs : (cc0_scratch0 : Ref sig .tc).ty.Contents (Elt F)) :
    (slotV j).read (Elt F) ((slotM j).view.write (Elt F) fd ((slotM i).view.read (Elt F) fs) Finset.univ) = (slotV i).read (Elt F) fs := by
  have h := View.read_write_univ (Val := Elt F) (v := (slotM j).view) fd ((slotM i).view.read (Elt F) fs)
  funext x
  have h' := congrFun h ((Shape.reshapeEquiv squeezes_S1x256x512_S256x512.numel_eq).symm x)
  have e1 : ∀ (k : Fin 16) (g : (cc0_scratch0 : Ref sig .tc).ty.Contents (Elt F)),
      (slotM k).view.read (Elt F) g ((Shape.reshapeEquiv squeezes_S1x256x512_S256x512.numel_eq).symm x) = (slotV k).read (Elt F) g x := by
    intro k g
    show (slotV k).read (Elt F) g (Shape.reshapeEquiv squeezes_S1x256x512_S256x512.numel_eq ((Shape.reshapeEquiv squeezes_S1x256x512_S256x512.numel_eq).symm x)) = _
    rw [Equiv.apply_symm_apply]
  rw [e1, e1] at h'
  exact h'

end Cert.KernelIdeal.Ring

end
-- ==== Proof.KI.Sched.lean ====
module

public import proofs.«01_k».proof.Proof.KI.Ring

/-!
# The schedule of the exchanges, the levels and what each device starts from

One round per semaphore cell. The contents the receive cells hand over, `X e d` for the block device `d` sends in exchange
`e`, are a parameter here; the body's proof puts its own there.
-/

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells -/

abbrev barS : Sem sig := barrier0
def sendQ (e : Fin 8) : DmaSem sig := ⟨10 + e.val, by have := e.isLt; show 10 + e.val < 26; omega⟩
def recvQ (e : Fin 8) : DmaSem sig := ⟨18 + e.val, by have := e.isLt; show 18 + e.val < 26; omega⟩

abbrev barCell (c : Dev nD) : GSem nD τ sig := ((c : Thread nD τ), .reg barS)
abbrev sendCell (e : Fin 8) (c : Dev nD) : GSem nD τ sig := ((c : Thread nD τ), .dma (sendQ e))
abbrev recvCell (e : Fin 8) (c : Dev nD) : GSem nD τ sig := ((c : Thread nD τ), .dma (recvQ e))

/-- The kernel's own semaphores: `(e, false)` is the send semaphore of exchange `e`, `(e, true)` its receive semaphore. -/
abbrev Xf : Type := Fin 8 × Bool
def osem (x : Xf) : SemLoc sig := if x.2 then .dma (recvQ x.1) else .dma (sendQ x.1)
/-- All of the ring's: those and the barrier's. -/
def csem : Option Xf → SemLoc sig
  | none => .reg barS
  | some x => osem x
abbrev kcell (p : Dev nD × Option Xf) : GSem nD τ sig := ((p.1 : Thread nD τ), csem p.2)

abbrev N : ℕ := (slotM 0).view.dmaCredit
theorem N_pos : 0 < N := View.dmaCredit_pos _ (by decide)
theorem N_slot (i : Fin 16) : (slotM i).view.dmaCredit = N := rfl

/-- The slot exchange `e` sends from, and the one it lands in. -/
def src (e : Fin 8) : Fin 16 := ⟨2 * e.val, by omega⟩
def dst (e : Fin 8) : Fin 16 := ⟨2 * e.val + 1, by omega⟩

theorem slots_eq (Φ : Fin 16 → sProp 𝕄) :
    bigSep Finset.univ Φ = iprop((bigSep Finset.univ fun e => Φ (src e)) ∗ bigSep Finset.univ fun e => Φ (dst e)) := by
  rw [bigSep_univ_equiv (finProdFinEquiv (m := 8) (n := 2)) Φ, bigSep_univ_prod]
  rw [bigSep_congr (Ψ := fun e => iprop(Φ (src e) ∗ Φ (dst e))) fun e _ => by
    rw [bigSep_fin_two]
    congr 1
    · congr 1; exact Fin.ext (by simp [finProdFinEquiv, src])
    · congr 1; exact Fin.ext (by simp [finProdFinEquiv, dst]; omega)]
  exact bigSep_sep' _ _ _

/-! ## The schedule -/

variable (X : Fin 8 → Dev nD → Blk F)

/-- The landing slots of the exchanges device `c` makes with one of its partners, at that partner. -/
def barPay (c : Dev nD) (d : Bool) : sProp 𝕄 := bigSep (Finset.univ.filter fun e => isA e = d) fun e => slotAny (pt e c) (dst e)

instance barPay_storable (c : Dev nD) (d : Bool) : BI.Storable (upEmb : UEmb _ 𝕄) (barPay (F := F) c d) := by unfold barPay; infer_instance

/-- The exchange a send (receive) semaphore belongs to. -/
def exS (q : DmaSem sig) : Fin 8 := ⟨(q.val - 10) % 8, Nat.mod_lt _ (by decide)⟩
def exR (q : DmaSem sig) : Fin 8 := ⟨(q.val - 18) % 8, Nat.mod_lt _ (by decide)⟩
theorem exS_sendQ (e : Fin 8) : exS (sendQ e) = e := by revert e; decide
theorem exR_recvQ (e : Fin 8) : exR (recvQ e) = e := by revert e; decide
theorem sendQ_lo (e : Fin 8) : 10 ≤ (sendQ e).val := by revert e; decide
theorem sendQ_hi (e : Fin 8) : ¬ 18 ≤ (sendQ e).val := by revert e; decide
theorem recvQ_lo (e : Fin 8) : 18 ≤ (recvQ e).val := by revert e; decide
theorem recvQ_lo' (e : Fin 8) : 10 ≤ (recvQ e).val := by revert e; decide

def pay (c : Dev nD) (d : Bool) : SemLoc sig → sProp 𝕄
  | .reg _ => barPay c d
  | .dma q => if 18 ≤ q.val then slotPts c (dst (exR q)) (X (exR q) (pt (exR q) c)) else slotPts c (src (exS q)) (X (exS q) c)

instance pay_storable (c : Dev nD) (d : Bool) (l : SemLoc sig) : BI.Storable (upEmb : UEmb _ 𝕄) (pay X c d l) := by
  unfold pay; split
  · infer_instance
  · split <;> infer_instance

/-- Which duties a cell's one round has. -/
def dut : SemLoc sig → Finset Bool
  | .reg r => if r = barS then Finset.univ else ∅
  | .dma q => if 10 ≤ q.val then {false} else ∅
def amt : SemLoc sig → ℕ
  | .reg _ => 1
  | .dma _ => N

def ringRd : Rounds.Schedule (GSem nD τ sig) Bool 𝕄 where
  duties g r := if r = 0 ∧ g.1.2 = .tc then dut g.2 else ∅
  unitless _ := False
  amount g _ _ := amt g.2
  payload g _ d := pay X g.1.1 d g.2
  amount_pos g _ _ _ := by
    unfold amt; split
    · exact Nat.one_pos
    · exact N_pos

instance ringRd_payload_storable (g : GSem nD τ sig) (r : ℕ) (d : Bool) :
    BI.Storable (upEmb : UEmb _ 𝕄) ((ringRd (F := F) X).payload g r d) := pay_storable X g.1.1 d g.2

section Sched
variable (c : Dev nD) (e : Fin 8)

theorem duties_at (l : SemLoc sig) : (ringRd (F := F) X).duties ((c : Thread nD τ), l) 0 = dut l := by dsimp only [ringRd]; exact if_pos ⟨rfl, rfl⟩
theorem duties_later (g : GSem nD τ sig) : ∀ r, 1 ≤ r → (ringRd (F := F) X).duties g r = ∅ := fun r hr => if_neg fun h => by omega
theorem dut_bar : dut (.reg barS) = Finset.univ := by unfold dut; exact if_pos rfl
theorem dut_send : dut (.dma (sendQ e)) = {false} := if_pos (sendQ_lo e)
theorem dut_recv : dut (.dma (recvQ e)) = {false} := if_pos (recvQ_lo' e)

theorem expect_bar : (ringRd (F := F) X).expect (barCell c) 0 = 2 := by
  unfold Schedule.expect Schedule.amountOf; rw [duties_at, dut_bar]; rfl
theorem expect_send : (ringRd (F := F) X).expect (sendCell e c) 0 = N := by
  unfold Schedule.expect Schedule.amountOf; rw [duties_at, dut_send, Finset.sum_singleton]; rfl
theorem expect_recv : (ringRd (F := F) X).expect (recvCell e c) 0 = N := by
  unfold Schedule.expect Schedule.amountOf; rw [duties_at, dut_recv, Finset.sum_singleton]; rfl

theorem amount_bar (d : Bool) : (ringRd (F := F) X).amount (barCell c) 0 d = 1 := rfl
theorem amount_send (d : Bool) : (ringRd (F := F) X).amount (sendCell e c) 0 d = N := rfl
theorem amount_recv (d : Bool) : (ringRd (F := F) X).amount (recvCell e c) 0 d = N := rfl

theorem payload_bar (d : Bool) : (ringRd (F := F) X).payload (barCell c) 0 d = barPay c d := rfl
theorem payload_send (d : Bool) : (ringRd (F := F) X).payload (sendCell e c) 0 d = slotPts c (src e) (X e c) := by
  show pay X c d (.dma (sendQ e)) = _
  unfold pay; dsimp only; rw [if_neg (sendQ_hi e), exS_sendQ]
theorem payload_recv (d : Bool) : (ringRd (F := F) X).payload (recvCell e c) 0 d = slotPts c (dst e) (X e (pt e c)) := by
  show pay X c d (.dma (recvQ e)) = _
  unfold pay; dsimp only; rw [if_pos (recvQ_lo e), exR_recvQ]

/-- The barrier's round hands over every landing slot `c` copies into. -/
theorem rest_bar : bigSep ((ringRd (F := F) X).duties (barCell c) 0 \ ∅) (fun d => (ringRd (F := F) X).payload (barCell c) 0 d)
    = bigSep Finset.univ fun e => slotAny (pt e c) (dst e) := by
  rw [Finset.sdiff_empty, duties_at, dut_bar, bigSep_univ_eq_bigSepL [true, false] (by decide) (by decide), bigSepL_cons_cons, bigSepL_singleton,
    payload_bar, payload_bar]
  unfold barPay
  rw [bigSep_filter_split Finset.univ (fun e => isA e = true)]
  simp only [Bool.not_eq_true]
theorem rest_send : bigSep ((ringRd (F := F) X).duties (sendCell e c) 0 \ ∅) (fun d => (ringRd (F := F) X).payload (sendCell e c) 0 d) = slotPts c (src e) (X e c) := by
  rw [Finset.sdiff_empty, duties_at, dut_send, bigSep_singleton, payload_send]
theorem rest_recv : bigSep ((ringRd (F := F) X).duties (recvCell e c) 0 \ ∅) (fun d => (ringRd (F := F) X).payload (recvCell e c) 0 d)
    = slotPts c (dst e) (X e (pt e c)) := by
  rw [Finset.sdiff_empty, duties_at, dut_recv, bigSep_singleton, payload_recv]

/-- What `c` hands over at its two signals is its own landing slots. -/
theorem own_landing : (bigSep Finset.univ fun e => slotAny (F := F) c (dst e)) ⊢ iprop(barPay (pa c) true ∗ barPay (pb c) false) := by
  unfold barPay
  rw [bigSep_filter_split Finset.univ (fun e => isA e = true)]
  simp only [Bool.not_eq_true]
  rw [bigSep_congr (s := Finset.univ.filter fun e => isA e = true) (Ψ := fun e => slotAny (F := F) (pt e (pa c)) (dst e)) fun e he => by
      rw [pt_a (Finset.mem_filter.mp he).2, pa_pa],
    bigSep_congr (s := Finset.univ.filter fun e => isA e = false) (Ψ := fun e => slotAny (F := F) (pt e (pb c)) (dst e)) fun e he => by
      rw [pt_b (Finset.mem_filter.mp he).2, pb_pb]]
  exact Entails.refl _

end Sched

/-! ## What is owed; the levels -/

/-- What `c` still owes before its exchange `k`: the credit of every receive cell from `k` on. -/
def owe (c : Dev nD) (k : ℕ) : CellTallies nD τ sig Unit := ∑ e ∈ Finset.univ.filter (fun e : Fin 8 => k ≤ e.val), tallyAt (recvCell e (pt e c)) () N
theorem owe_peel (c : Dev nD) (e : Fin 8) : owe c e.val = owe c (e.val + 1) + tallyAt (recvCell e (pt e c)) () N := by
  unfold owe
  rw [show (Finset.univ.filter fun x : Fin 8 => e.val ≤ x.val) = insert e (Finset.univ.filter fun x : Fin 8 => e.val + 1 ≤ x.val) from by
    revert e; decide, Finset.sum_insert (by simp), add_comm]
theorem owe_done (c : Dev nD) : owe c 8 = 0 := by
  unfold owe; rw [show (Finset.univ.filter fun x : Fin 8 => 8 ≤ x.val) = ∅ from by decide, Finset.sum_empty]
/-- At launch also one unit of each partner's barrier cell: the signal to `pa` peels the last summand, the one to `pb` the middle one. -/
def O₁ (c : Dev nD) : CellTallies nD τ sig Unit := owe c 0 + tallyAt (barCell (pb c)) () 1
def O₀ (c : Dev nD) : CellTallies nD τ sig Unit := O₁ c + tallyAt (barCell (pa c)) () 1

def L (g : GSem nD τ sig) : Finset Unit := if g.1.2 = .tc then {()} else ∅
def lvS : SemLoc sig → ℕ
  | .reg _ => 1
  | .dma q => if 18 ≤ q.val then q.val - 16 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_recv (e : Fin 8) : lvS (.dma (recvQ e)) = 2 + e.val := by revert e; decide
theorem lvS_send (e : Fin 8) : lvS (.dma (sendQ e)) = 0 := by revert e; decide

theorem owe_pos {c : Dev nD} {k : ℕ} {g : GSem nD τ sig} {u : Unit} (h : 0 < owe c k g u) : ∃ e : Fin 8, k ≤ e.val ∧ g = recvCell e (pt e c) := by
  by_contra hn
  rw [not_exists] at hn
  unfold owe at h
  rw [Finset.sum_apply, Finsupp.finset_sum_apply, Finset.sum_eq_zero fun e he => by
    rw [tallyAt_apply]; exact if_neg fun h' => hn e ⟨(Finset.mem_filter.mp he).2, h'.1⟩] at h
  exact Nat.lt_irrefl 0 h

theorem O₀_pos {c : Dev nD} {g : GSem nD τ sig} {u : Unit} (h : 0 < O₀ c g u) :
    (∃ e : Fin 8, g = recvCell e (pt e c)) ∨ g = barCell (pb c) ∨ g = barCell (pa c) := by
  unfold O₀ O₁ at h
  rw [Pi.add_apply, Finsupp.add_apply, Pi.add_apply, Finsupp.add_apply, tallyAt_apply, tallyAt_apply] at h
  by_cases h0 : 0 < owe c 0 g u
  · obtain ⟨e, -, he⟩ := owe_pos h0; exact .inl ⟨e, he⟩
  by_contra hn
  rw [not_or, not_or] at hn
  rw [if_neg (fun h' => hn.2.1 h'.1), if_neg (fun h' => hn.2.2 h'.1)] at h
  omega

/-- A wait on a cell below every receive cell still owed. -/
theorem mayWait_owe (c : Dev nD) (sm : SemLoc sig) (k : ℕ) (h : lvS sm < 2 + k) : (levAts L lv : sProp 𝕄) ⊢ MayWait (c : Thread nD τ) sm () (owe c k) :=
  MayOwe.of_cut (L := L) (lev := lv) (lvS sm) (fun p hp => by rw [Finset.mem_singleton.mp hp, L_tc]; exact Finset.mem_singleton_self _)
    (fun g u hg => by obtain ⟨e, -, rfl⟩ := owe_pos hg; exact Finset.mem_singleton_self _)
    (fun p hp => by rw [Finset.mem_singleton.mp hp]; exact le_rfl)
    (fun g u hg => by
      obtain ⟨e, he, rfl⟩ := owe_pos hg
      show lvS sm < lvS (.dma (recvQ e)); rw [lvS_recv]; omega)

theorem mayWait_stage (c : Dev nD) (q : DmaSem sig) (hq : ¬ 18 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | rfl | rfl <;> exact Finset.mem_singleton_self _)
      (fun p hp => by rw [Finset.mem_singleton.mp hp]; show lvS (.dma q) ≤ 0; unfold lvS; dsimp only; rw [if_neg hq])
      (fun g u hg => by
        rcases O₀_pos hg with ⟨e, rfl⟩ | rfl | rfl
        · show 0 < lvS (.dma (recvQ e)); rw [lvS_recv]; omega
        · exact Nat.one_pos
        · exact Nat.one_pos)
  · rw [MayWait_zero]; iintro -; iempintro

/-! ## What each device starts from -/

/-- Every cell's invariant, and that every cell has reached round 0. -/
def shared (K : Dev nD × Option Xf → ℕ) : sProp 𝕄 :=
  iprop((bigSep Finset.univ fun p : Dev nD × Option Xf => cellInv ER (ringRd X) (K p) (kcell p)) ∗ bigSep Finset.univ fun p : Dev nD × Option Xf => reached ER (kcell p) 0)
instance shared_persistent (K : Dev nD × Option Xf → ℕ) : BI.Persistent (shared X K) := by unfold shared; infer_instance

theorem inv_at (K : Dev nD × Option Xf → ℕ) (c : Dev nD) (k : Option Xf) : shared X K ⊢ cellInv ER (ringRd X) (K (c, k)) (kcell (c, k)) := by

  have h : (bigSep Finset.univ fun p : Dev nD × Option Xf => cellInv ER (ringRd X) (K p) (kcell p)) ⊢ cellInv ER (ringRd X) (K (c, k)) (kcell (c, k)) :=
    bigSep_elim (Finset.mem_univ (c, k))
  unfold shared; iintro ⟨H, -⟩; iapply h; iexact H
theorem reached_at (K : Dev nD × Option Xf → ℕ) (c : Dev nD) (k : Option Xf) : shared X K ⊢ reached ER (kcell (c, k)) 0 := by

  have h : (bigSep Finset.univ fun p : Dev nD × Option Xf => (reached ER (kcell p) 0 : sProp 𝕄)) ⊢ reached ER (kcell (c, k)) 0 :=
    bigSep_elim (Finset.mem_univ (c, k))
  unfold shared; iintro ⟨-, H⟩; iapply h; iexact H

/-- Device `c`'s part of exchange `e` before it sends: its positions at its two cells, the two duties it pays and its receive cell's credit. -/
def ready (c : Dev nD) (e : Fin 8) : sProp 𝕄 :=
  iprop(atPos ER (sendCell e c) 0 ∅ 0 ∗ atPos ER (recvCell e c) 0 ∅ 0 ∗ dutyTok ER (sendCell e c) 0 false ∗ dutyTok ER (recvCell e (pt e c)) 0 false
    ∗ cred (tallyAt (recvCell e c) () N))
/-- Its part of the barrier: its position, the two duties it pays and its credit. -/
def readyB (c : Dev nD) : sProp 𝕄 :=
  iprop(atPos ER (barCell c) 0 ∅ 0 ∗ dutyTok ER (barCell (pa c)) 0 true ∗ dutyTok ER (barCell (pb c)) 0 false ∗ cred (tallyAt (barCell c) () 2))

def start (c : Dev nD) : sProp 𝕄 := iprop((∃ K, shared X K) ∗ levAts L lv ∗ readyB (F := F) c ∗ bigSep Finset.univ fun e => ready (F := F) c e)

abbrev 𝒱₀ : Variants := Variants.none

end Cert.KernelIdeal.Ring

end
-- ==== Proof.KI.Steps.lean ====
module

public import proofs.«01_k».proof.Proof.KI.Sched

/-!
# One rule per effect of the body

Loading and storing a slot, the two signals, the barrier's wait, and an exchange's send and two waits, each between the
states of that exchange: `ready`, `flight` (sent), `landing` (the send waited for) and `closed` (both waited for).
-/

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {α : Type} {Q : α → sProp (MT nD τ sig Unit (Elt F) ℕ UU ℕ)}

/-- The program `p` run on device `c`. -/
abbrev run (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Slots -/

theorem wp_load_slot (c : Dev nD) (i : Fin 16) (v : Blk F) {hl : (cM : Memref sig .tc .vmem S16x256x512 .bf16).view.LoadsAt (slotR i).toLoadRect}
    {k : ((slotR i).toLoadRect.shape.Idx → Elt F .bf16) → Prog (TpuEff nD τ sig (Elt F) Λ₀ .tc) α} :
    slotPts c i v ⊢ iprop((slotPts c i v -∗ run c (k v) Q) -∗ run c (.op (.load cM (slotR i).toLoadRect hl) k) Q) := by
  unfold slotPts
  iintro ⟨%f, %hf, H⟩ Hk
  iapply (wp_load_rect 𝒱₀ (c : Thread nD τ) none Set.univ (m := cM) (r := slotR i) (Finset.Subset.refl _)) $$ H
  iintro H
  rw [hf]
  iapply Hk
  iexists f
  isplitr; · ipureintro; exact hf
  iexact H

/-- A load whose value is not used further. -/
theorem wp_load_any (c : Dev nD) (i : Fin 16) {hl : (cM : Memref sig .tc .vmem S16x256x512 .bf16).view.LoadsAt (slotR i).toLoadRect}
    {k : ((slotR i).toLoadRect.shape.Idx → Elt F .bf16) → Prog (TpuEff nD τ sig (Elt F) Λ₀ .tc) α} :
    slotAny c i ⊢ iprop((∀ v, slotAny c i -∗ run c (k v) Q) -∗ run c (.op (.load cM (slotR i).toLoadRect hl) k) Q) := by
  unfold slotAny
  iintro ⟨%f, H⟩ Hk
  iapply (wp_load_rect 𝒱₀ (c : Thread nD τ) none Set.univ (m := cM) (r := slotR i) (Finset.Subset.refl _)) $$ H
  iintro H
  iapply Hk
  iexists f
  iexact H

theorem wp_store_slot (c : Dev nD) (i : Fin 16) (w : Blk F) {hx : ((cM : Memref sig .tc .vmem S16x256x512 .bf16).access (slotR i)).Stores Finset.univ}
    {k : PUnit → Prog (TpuEff nD τ sig (Elt F) Λ₀ .tc) α} :
    slotAny c i ⊢ iprop((slotPts c i w -∗ run c (k ⟨⟩) Q) -∗ run c (.op (.store cM (slotR i) w Finset.univ hx (.inl rfl)) k) Q) := by
  unfold slotAny slotPts
  iintro ⟨%f, H⟩ Hk
  iapply (wp_store 𝒱₀ (c : Thread nD τ) none Set.univ (m := cM) (r := slotR i) (Mk := Finset.univ) (by rw [View.setOn_univ])) $$ H
  iintro H
  iapply Hk
  iexists _
  isplitr
  swap
  · iexact H
  ipureintro
  exact View.read_write_univ _ _

/-! ## Exchanges -/

variable (X : Fin 8 → Dev nD → Blk F) (K : Dev nD × Option Xf → ℕ)

/-- What `c` owes before exchange `k`, whatever it has waited for. -/
def owesAt (c : Dev nD) (k : ℕ) : sProp 𝕄 := iprop(∃ W, owes (c : Thread nD τ) (owe c k) W)

def flight (c : Dev nD) (e : Fin 8) : sProp 𝕄 :=
  iprop(atPos ER (sendCell e c) 0 ∅ 0 ∗ atPos ER (recvCell e c) 0 ∅ 0 ∗ cred (tallyAt (sendCell e c) () N) ∗ cred (tallyAt (recvCell e c) () N))
def landing (c : Dev nD) (e : Fin 8) : sProp 𝕄 :=
  iprop(semVal (sendCell e c) 0 ∗ atPos ER (recvCell e c) 0 ∅ 0 ∗ cred (tallyAt (recvCell e c) () N))
def closed (c : Dev nD) (e : Fin 8) : sProp 𝕄 := iprop(semVal (sendCell e c) 0 ∗ semVal (recvCell e c) 0)

theorem inv_send (c : Dev nD) (e : Fin 8) : shared X K ⊢ cellInv ER (ringRd X) (K (c, some (e, false))) (sendCell e c) := inv_at X K c (some (e, false))
theorem inv_recv (c : Dev nD) (e : Fin 8) : shared X K ⊢ cellInv ER (ringRd X) (K (c, some (e, true))) (recvCell e c) := inv_at X K c (some (e, true))
theorem inv_bar (c : Dev nD) : shared X K ⊢ cellInv ER (ringRd X) (K (c, none)) (barCell c) := inv_at X K c none
theorem reached_send (c : Dev nD) (e : Fin 8) : shared X K ⊢ reached ER (sendCell e c) 0 := reached_at X K c (some (e, false))
theorem reached_recv (c : Dev nD) (e : Fin 8) : shared X K ⊢ reached ER (recvCell e c) 0 := reached_at X K c (some (e, true))
theorem reached_bar (c : Dev nD) : shared X K ⊢ reached ER (barCell c) 0 := reached_at X K c none

theorem amount_slot (e : Fin 8) : (slotM (dst e)).view.amount (.dma (recvQ e)) = N := rfl

theorem wp_send (c n : Dev nD) (e : Fin 8) (hn : n = pt e c) {sq rq : DmaSem sig} (hs : sq = sendQ e) (hr : rq = recvQ e)
    {hsc : (slotM (dst e) : Memref sig (Dev.tc n : Thread nD τ).2.kind .vmem S256x512 .bf16).view.ref.isScScratch = false}
    {hsrc : (slotM (src e)).view.WordExact} {hdst : (slotM (dst e)).view.WordExact}
    {hsem : DmaTarget.Typed .vmem (.dma rq) (.remote (Dev.tc n : Thread nD τ) (slotM (dst e)) (.dma sq) hsc)}
    {k : PUnit → Prog (TpuEff nD τ sig (Elt F) Λ₀ .tc) α} :
    iprop(shared X K ∗ ready c e ∗ slotPts c (src e) (X e c) ∗ slotAny (pt e c) (dst e) ∗ owesAt c e.val)
      ⊢ iprop((flight c e ∗ owesAt c (e.val + 1) -∗ run c (k ⟨⟩) Q)
          -∗ run c (.op (.enqueueDma (slotM (src e)) (.remote (Dev.tc n : Thread nD τ) (slotM (dst e)) (.dma sq) hsc) (.dma rq) hsrc hdst hsem) k) Q) := by
  subst hn hs hr
  unfold ready slotPts slotAny owesAt flight
  iintro ⟨#Hsh, ⟨HaS, HaR, HtS, HtR, HcR⟩, ⟨%fs, %hfs, Hs⟩, ⟨%fd, Hd⟩, ⟨%W, HO⟩⟩ Hk
  have hp₁ : ((slotM (src e)).view.loc (c : Thread nD τ) ↦[(slotM (src e)).view.set]{fullShare} fs) ⊢ (ringRd X).payload (sendCell e c) 0 false := by
    rw [payload_send]; unfold slotPts; iintro H; iexists fs
    isplitr; · ipureintro; exact hfs
    rw [← slotM_set]; iexact H
  have hp₂ : ((slotM (dst e)).view.loc (pt e c : Thread nD τ) ↦[(slotM (dst e)).view.set]{fullShare}
        ((slotM (dst e)).view.write (Elt F) fd ((slotM (src e)).view.read (Elt F) fs) Finset.univ)) ⊢ (ringRd X).payload (recvCell e (pt e c)) 0 false := by
    rw [payload_recv]; unfold slotPts; rw [pt_pt]; iintro H; iexists _
    isplitr
    swap
    · rw [← slotM_set]; iexact H
    · ipureintro; rw [← hfs]; exact slot_copy (src e) (dst e) _ _
  iapply (Rounds.wp_send_pointsTo 𝒱₀ ER (ringRd X) (c : Thread nD τ) none (κ₁ := K (c, some (e, false))) (κ₂ := K (pt e c, some (e, true)))
    (r₁ := 0) (r₂ := 0) (d₁ := false) (d₂ := false) (fd := fd)
    (by rw [duties_at, dut_send]; exact Finset.mem_singleton_self _) (by rw [duties_at, dut_recv]; exact Finset.mem_singleton_self _)
    () () N (amount_slot e) (amount_send X c e false) (amount_recv X (pt e c) e false) (owe c (e.val + 1)) (owe_peel c e) (W := W) hp₁ hp₂) $$ [Hs Hd HO HtS HtR]
  · isplitr; · iapply (inv_send X K c e); iexact Hsh
    isplitr; · iapply (inv_recv X K (pt e c) e); iexact Hsh
    isplitl [Hs]; · rw [slotM_set]; iexact Hs
    isplitl [Hd]; · rw [slotM_set]; iexact Hd
    isplitl [HO]; · iexact HO
    isplitl [HtS]; · iexact HtS
    isplitr; · iapply (reached_send X K c e); iexact Hsh
    isplitl [HtR]; · iexact HtR
    iapply (reached_recv X K (pt e c) e); iexact Hsh
  iintro ⟨HcS, HO⟩
  iapply Hk
  isplitl [HaS HaR HcS HcR]
  · isplitl [HaS]; · iexact HaS
    isplitl [HaR]; · iexact HaR
    isplitl [HcS] <;> iassumption
  iexists W; iexact HO

/-- The wait for the copy out: slot `2e` is back with its contents. -/
theorem wp_wait_send (c : Dev nD) (e : Fin 8) (j : ℕ) {sq : DmaSem sig} (hs : sq = sendQ e) {i i' : Fin 16}
    {hsrc : (slotM i).view.WordExact} {hdst : (slotM i').view.WordExact} {k : PUnit → Prog (TpuEff nD τ sig (Elt F) Λ₀ .tc) α} :
    iprop(shared X K ∗ levAts L lv ∗ flight c e ∗ owesAt c j)
      ⊢ iprop((landing c e ∗ slotPts c (src e) (X e c) ∗ owesAt c j -∗ run c (k ⟨⟩) Q)
          -∗ run c (.op (.waitDma2 sq (slotM i) (slotM i') hsrc hdst) k) Q) := by
  subst hs
  unfold owesAt flight landing
  iintro ⟨#Hsh, #Hlev, ⟨HaS, HaR, HcS, HcR⟩, ⟨%W, HO⟩⟩ Hk
  ihave #HI := (inv_send X K c e) $$ Hsh
  iapply (Rounds.wp_wait_rest_token 𝒱₀ ER (ringRd X) (c : Thread nD τ) none (κ := K (c, some (e, false)))
      (wpE_waitDma2_eq 𝒱₀ (c : Thread nD τ) none Set.univ) (Set.mem_univ _) () (O := owe c j) (W := W) (R := 0) (m := 0) (T := ∅)
      (by rw [Nat.zero_add, expect_send])) $$ [HcS HO HaS]
  · isplitr; · iexact HI
    isplitl [HcS]; · iexact HcS
    isplitl [HO]; · iexact HO
    isplitr; · iapply (mayWait_owe c (.dma (sendQ e)) j (by rw [lvS_send]; omega)); iexact Hlev
    iexact HaS
  iintro ⟨HO, HaS, -, Hpay⟩
  ihave Hs := (Entails.of_eq (rest_send X c e)) $$ Hpay
  imod (Rounds.cell_close ER (ringRd X) (Set.mem_univ (K (c, some (e, false)))) (fun h => h) (R := 0 + 1) (duties_later X (sendCell e c))) $$ [HaS] with Hz
  · isplitr; · iexact HI
    iexact HaS
  iapply Hk
  isplitl [Hz HaR HcR]
  · isplitl [Hz]; · iexact Hz
    isplitl [HaR] <;> iassumption
  isplitl [Hs]; · iexact Hs
  iexists _; iexact HO

/-- The wait for the partner's copy: slot `2e + 1` holds what the partner sent. -/
theorem wp_wait_recv (c : Dev nD) (e : Fin 8) (j : ℕ) (hj : e.val < j) {rq : DmaSem sig} (hr : rq = recvQ e) {i i' : Fin 16}
    {hsrc : (slotM i).view.WordExact} {hdst : (slotM i').view.WordExact} {k : PUnit → Prog (TpuEff nD τ sig (Elt F) Λ₀ .tc) α} :
    iprop(shared X K ∗ levAts L lv ∗ landing c e ∗ owesAt c j)
      ⊢ iprop((closed c e ∗ slotPts c (dst e) (X e (pt e c)) ∗ owesAt c j -∗ run c (k ⟨⟩) Q)
          -∗ run c (.op (.waitDma2 rq (slotM i) (slotM i') hsrc hdst) k) Q) := by
  subst hr
  unfold owesAt landing closed
  iintro ⟨#Hsh, #Hlev, ⟨Hz, HaR, HcR⟩, ⟨%W, HO⟩⟩ Hk
  ihave #HI := (inv_recv X K c e) $$ Hsh
  iapply (Rounds.wp_wait_rest_token 𝒱₀ ER (ringRd X) (c : Thread nD τ) none (κ := K (c, some (e, true)))
      (wpE_waitDma2_eq 𝒱₀ (c : Thread nD τ) none Set.univ) (Set.mem_univ _) () (O := owe c j) (W := W) (R := 0) (m := 0) (T := ∅)
      (by rw [Nat.zero_add, expect_recv])) $$ [HcR HO HaR]
  · isplitr; · iexact HI
    isplitl [HcR]; · iexact HcR
    isplitl [HO]; · iexact HO
    isplitr; · iapply (mayWait_owe c (.dma (recvQ e)) j (by rw [lvS_recv]; omega)); iexact Hlev
    iexact HaR
  iintro ⟨HO, HaR, -, Hpay⟩
  ihave Hs := (Entails.of_eq (rest_recv X c e)) $$ Hpay
  imod (Rounds.cell_close ER (ringRd X) (Set.mem_univ (K (c, some (e, true)))) (fun h => h) (R := 0 + 1) (duties_later X (recvCell e c))) $$ [HaR] with Hz'
  · isplitr; · iexact HI
    iexact HaR
  iapply Hk
  isplitl [Hz Hz']
  · isplitl [Hz] <;> iassumption
  isplitl [Hs]; · iexact Hs
  iexists _; iexact HO

/-! ## The entry handshake -/

/-- The two signals and the wait, in a row: `c` gives its landing slots away and has every landing slot it copies into. -/
theorem wp_handshake (c n₁ n₂ : Dev nD) (h₁ : n₁ = pa c) (h₂ : n₂ = pb c) (W : Waits sig Unit) {k : PUnit → Prog (TpuEff nD τ sig (Elt F) Λ₀ .tc) α} :
    iprop(shared X K ∗ levAts L lv ∗ readyB c ∗ (bigSep Finset.univ fun e => slotAny c (dst e)) ∗ owes (c : Thread nD τ) (O₀ c) W)
      ⊢ iprop((semVal (barCell c) 0 ∗ (bigSep Finset.univ fun e => slotAny (pt e c) (dst e)) ∗ owesAt c 0 -∗ run c (k ⟨⟩) Q)
          -∗ run c (.op (.semSignal (Dev.tc n₁ : Thread nD τ) barS (1#32 : BitVec 32).toInt) fun _ => .op (.semSignal (Dev.tc n₂ : Thread nD τ) barS (1#32 : BitVec 32).toInt) fun _ => .op (.semWait barS (2#32 : BitVec 32).toInt) k) Q) := by
  subst h₁ h₂
  iintro ⟨#Hsh, #Hlev, Hb, Hl, HO⟩ Hk
  unfold readyB
  icases Hb with ⟨Hat, HtA, HtB, Hc⟩
  ihave Hl' := (own_landing c) $$ Hl
  icases Hl' with ⟨HlA, HlB⟩
  iapply (Rounds.wp_signal 𝒱₀ ER (ringRd X) (c : Thread nD τ) none (dst := (pa c : Thread nD τ)) (κ := K (pa c, none))
      (d := true) (by rw [duties_at, dut_bar]; exact Finset.mem_univ _) ((amount_bar X (pa c) true).trans (by decide)) () (O₁ c) rfl)
    $$ [HO HtA HlA]
  · isplitr; · iapply (inv_bar X K (pa c)); iexact Hsh
    isplitl [HO]; · iexact HO
    isplitl [HtA]; · iexact HtA
    isplitl [HlA]; · rw [payload_bar]; iexact HlA
    iapply (reached_bar X K (pa c)); iexact Hsh
  iintro HO
  unfold O₁
  iapply (Rounds.wp_signal 𝒱₀ ER (ringRd X) (c : Thread nD τ) none (dst := (pb c : Thread nD τ)) (κ := K (pb c, none))
      (d := false) (by rw [duties_at, dut_bar]; exact Finset.mem_univ _) ((amount_bar X (pb c) false).trans (by decide)) () (owe c 0) rfl)
    $$ [HO HtB HlB]
  · isplitr; · iapply (inv_bar X K (pb c)); iexact Hsh
    isplitl [HO]; · iexact HO
    isplitl [HtB]; · iexact HtB
    isplitl [HlB]; · rw [payload_bar]; iexact HlB
    iapply (reached_bar X K (pb c)); iexact Hsh
  iintro HO
  ihave #HI := (inv_bar X K c) $$ Hsh
  iapply (Rounds.wp_wait_rest_token 𝒱₀ ER (ringRd X) (c : Thread nD τ) none (κ := K (c, none))
      (wpE_semWait_eq 𝒱₀ (c : Thread nD τ) none Set.univ) (Set.mem_univ _) () (O := owe c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_owe c (.reg barS) 0 (by decide)); iexact Hlev
    iexact Hat
  iintro ⟨HO, Hat, -, Hpay⟩
  ihave Hp := (Entails.of_eq (rest_bar X c)) $$ Hpay
  imod (Rounds.cell_close ER (ringRd X) (Set.mem_univ (K (c, none))) (fun h => h) (R := 0 + 1) (duties_later X (barCell c))) $$ [Hat] with Hz
  · isplitr; · iexact HI
    iexact Hat
  iapply Hk
  isplitl [Hz]; · iexact Hz
  isplitl [Hp]; · iexact Hp
  unfold owesAt
  iexists _; iexact HO

end Cert.KernelIdeal.Ring

end
-- ==== Proof.KI.Contents.lean ====
module

public import proofs.«01_k».proof.Proof.KI.Ring

/-!
# What the slots and the result hold

From the nine staged inputs of every device: each exchange's block `X e d`, and the result `outAt`. The two batch rows run
side by side: exchanges 0, 2, 4, 6 carry row 0 and 1, 3, 5, 7 row 1; 0 to 3 carry the attention's partial sums, 4 to 7 the
feed-forward's.
-/

@[expose] public section

noncomputable section

namespace Cert.KernelIdeal.Ring

open Cert.KernelIdeal Cert.KernelIdeal.Gen

open Idealize.ShloMosaic
open Idealize.ShloMosaic.TcCoe

variable {F : FTy → Type} [FloatOps F]

/-- One device's staged inputs. -/
structure Ins (F : FTy → Type) where
  x : (cc0_stg0_0 : Ref sig .tc).ty.Contents (Elt F)
  wq : (cc0_stg1_0 : Ref sig .tc).ty.Contents (Elt F)
  wk : (cc0_stg2_0 : Ref sig .tc).ty.Contents (Elt F)
  wv : (cc0_stg3_0 : Ref sig .tc).ty.Contents (Elt F)
  wo : (cc0_stg4_0 : Ref sig .tc).ty.Contents (Elt F)
  t : (cc0_stg5_0 : Ref sig .tc).ty.Contents (Elt F)
  wm : (cc0_stg6_0 : Ref sig .tc).ty.Contents (Elt F)
  f1 : (cc0_stg7_0 : Ref sig .tc).ty.Contents (Elt F)
  f2 : (cc0_stg8_0 : Ref sig .tc).ty.Contents (Elt F)

abbrev rx0 : Rect S2x256x512 := Rect.unit (s := S2x256x512) ![0, 0, 0] S1x256x512.size inb_S2x256x512_S1x256x512_0_0_0
abbrev rx1 : Rect S2x256x512 := Rect.unit (s := S2x256x512) ![1, 0, 0] S1x256x512.size inb_S2x256x512_S1x256x512_1_0_0

namespace Ins

variable (i : Ins F)

def mod : FVec F S2x3072 .f32 := k0_pay2 i.t i.wm
def x0 : FVec F S256x512 .bf16 := k0_pay7 ((Memref.whole cc0_stg0_0 : Memref sig .tc .vmem S2x256x512 .bf16).view.readAt (Elt F) rx0.toLoadRect i.x)
def x1 : FVec F S256x512 .bf16 := k0_pay8 ((Memref.whole cc0_stg0_0 : Memref sig .tc .vmem S2x256x512 .bf16).view.readAt (Elt F) rx1.toLoadRect i.x)

def q0 : FVec F S256x256 .f32 := k0_pay10 i.mod (k0_pay3 i.wq) i.x0
def k0 : FVec F S256x256 .f32 := k0_pay11 i.mod (k0_pay4 i.wk) i.x0
def v0 : FVec F S256x256 .f32 := k0_pay12 i.mod (k0_pay5 i.wv) i.x0
def a0 : Blk F := k0_pay18 (k0_pay6 i.wo) i.q0 i.k0 i.v0 (k0_pay14 i.v0 (k0_pay13 i.mod (k0_pay3 i.wq) (k0_pay4 i.wk) i.x0)) (k0_pay15 i.q0 i.k0 i.v0)
  (k0_pay16 i.q0 i.k0) (k0_pay17 i.v0) (constant S256x64 .f32 0x00000000#32)

def q1 : FVec F S256x256 .f32 := k0_pay21 i.mod (k0_pay3 i.wq) i.x1 (k0_pay19 i.mod)
def k1 : FVec F S256x256 .f32 := k0_pay22 i.mod (k0_pay4 i.wk) i.x1 (k0_pay19 i.mod)
def v1 : FVec F S256x256 .f32 := k0_pay23 i.mod (k0_pay5 i.wv) i.x1 (k0_pay19 i.mod)
def a1 : Blk F := k0_pay31 (k0_pay6 i.wo) i.v1
  (k0_pay26 i.v1 (k0_pay24 i.mod (k0_pay3 i.wq) (k0_pay4 i.wk) i.x1 (k0_pay19 i.mod)) (k0_pay25 i.mod (k0_pay3 i.wq) (k0_pay4 i.wk) i.x1 (k0_pay19 i.mod)))
  (k0_pay27 i.q1 i.k1 i.v1) (k0_pay28 i.q1 i.k1 i.v1) (k0_pay29 i.q1) (k0_pay30 i.k1)

/-- From the attention's two half sums `s`, `s'` of row 0 (row 1): the residual after the attention, and the feed-forward's part. -/
def r0 (s s' : Blk F) : FVec F S256x512 .f32 := k0_pay36 i.x0 (k0_pay35 i.mod) s s'
def r1 (s s' : Blk F) : FVec F S256x512 .f32 := k0_pay40 i.mod i.x1 s s'
def g0 (s s' : Blk F) : Blk F := k0_pay39 (k0_pay37 i.mod i.x0 (k0_pay35 i.mod) s s' i.f1) (k0_pay38 i.f2)
def g1 (s s' : Blk F) : Blk F := k0_pay43 (k0_pay41 i.f1) (k0_pay42 i.mod i.x1 s s') i.f2

end Ins

variable (I : Dev nD → Ins F)

def A0 (d : Dev nD) : Blk F := (I d).a0
def A1 (d : Dev nD) : Blk F := (I d).a1
def B0 (d : Dev nD) : Blk F := k0_pay32 (A0 I d) (A0 I (pa d))
def B1 (d : Dev nD) : Blk F := k0_pay34 (k0_pay33 (A1 I d) (A1 I (pa d)))
def C0 (d : Dev nD) : Blk F := (I d).g0 (B0 I d) (B0 I (pb d))
def C1 (d : Dev nD) : Blk F := (I d).g1 (B1 I d) (B1 I (pb d))
def D0 (d : Dev nD) : Blk F := k0_pay44 (C0 I d) (C0 I (pa d))
def D1 (d : Dev nD) : Blk F := k0_pay45 (C1 I d) (C1 I (pa d))

/-- The block device `d` sends in exchange `e`. -/
def X : Fin 8 → Dev nD → Blk F := ![A0 I, A1 I, B0 I, B1 I, C0 I, C1 I, D0 I, D1 I]

def E0 (d : Dev nD) : FVec F S1x256x512 .f32 := k0_pay47 (k0_pay46 (I d).mod ((I d).r0 (B0 I d) (B0 I (pb d))) (D0 I d) (D0 I (pb d)))
def E1 (d : Dev nD) : FVec F S1x256x512 .f32 := k0_pay1 (k0_pay48 (I d).mod ((I d).r1 (B1 I d) (B1 I (pb d))) (D1 I d) (D1 I (pb d)))

/-- A result's index within its batch row. -/
def inRow (j : S2x256x512.Idx) : S1x256x512.Idx
  | ⟨0, _⟩ => (0 : Fin 1)
  | ⟨1, _⟩ => j 1
  | ⟨2, _⟩ => j 2

def outAt (d : Dev nD) : (cc0_stg9_0 : Ref sig .tc).ty.Contents (Elt F) :=
  fun j : S2x256x512.Idx => if (j 0).val = 0 then E0 I d (inRow j) else E1 I d (inRow j)

omit [FloatOps F] in
/-- The two stores leave one row each, whatever was there before. -/
theorem write_rows (f : (cc0_stg9_0 : Ref sig .tc).ty.Contents (Elt F)) (a b : S1x256x512.Idx → Elt F .f32) :
    ((Memref.whole cc0_stg9_0 : Memref sig .tc .vmem S2x256x512 .f32).access rx1).write (Elt F)
        (((Memref.whole cc0_stg9_0 : Memref sig .tc .vmem S2x256x512 .f32).access rx0).write (Elt F) f a Finset.univ) b Finset.univ
      = fun j : S2x256x512.Idx => if (j 0).val = 0 then a (inRow j) else b (inRow j) := by
  have h0 : ∀ j : S2x256x512.Idx, (j 0).val = 0 → ((Memref.whole cc0_stg9_0 : Memref sig .tc .vmem S2x256x512 .f32).access rx0).emb (inRow j) = j := by
    intro j hj
    funext k; fin_cases k
    · exact Fin.ext (by show 0 + 1 * 0 = (j 0).val; omega)
    · exact Fin.ext (by show 0 + 1 * (j 1).val = (j 1).val; omega)
    · exact Fin.ext (by show 0 + 1 * (j 2).val = (j 2).val; omega)
  have h1 : ∀ j : S2x256x512.Idx, ¬(j 0).val = 0 → ((Memref.whole cc0_stg9_0 : Memref sig .tc .vmem S2x256x512 .f32).access rx1).emb (inRow j) = j := by
    intro j hj
    have h2 : (j 0).val < 2 := (j 0).isLt
    funext k; fin_cases k
    · exact Fin.ext (by show 1 + 1 * 0 = (j 0).val; omega)
    · exact Fin.ext (by show 0 + 1 * (j 1).val = (j 1).val; omega)
    · exact Fin.ext (by show 0 + 1 * (j 2).val = (j 2).val; omega)
  funext j
  by_cases hj : (j 0).val = 0
  · rw [if_pos hj, View.write_of_not_mem]
    · conv_lhs => rw [← h0 j hj]
      rw [View.write_emb_of_mem _ _ (Finset.mem_univ _)]; rfl
    · rw [View.setOn_univ, View.set_slice_whole]
      intro hm
      have h : 1 ≤ (j 0).val ∧ _ := (Rect.mem_set_unit.mp hm) 0
      omega
  · rw [if_neg hj]
    conv_lhs => rw [← h1 j hj]
    rw [View.write_emb_of_mem _ _ (Finset.mem_univ _)]; rfl

end Cert.KernelIdeal.Ring

end
-- ==== Proof.KI.Body.lean ====
module

public import proofs.«01_k».proof.Proof.KI.Steps
public import proofs.«01_k».proof.Proof.KI.Contents

/-!
# The body, effect by effect

One rule per effect in program order: the handshake, then for each exchange its store and send, later its two waits, and
the loads of what it brought.
-/

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]
  rfl

abbrev stgPts (c : Dev nD) (b : Ref sig .tc) (f : b.ty.Contents (Elt F)) : sProp 𝕄 := (((c : Thread nD τ).loc b) ↦{fullShare} f)

/-- The nine staged inputs. -/
def inputs (c : Dev nD) (i : Ins F) : sProp 𝕄 :=
  iprop(stgPts c cc0_stg0_0 i.x ∗ stgPts c cc0_stg1_0 i.wq ∗ stgPts c cc0_stg2_0 i.wk ∗ stgPts c cc0_stg3_0 i.wv ∗ stgPts c cc0_stg4_0 i.wo
    ∗ stgPts c cc0_stg5_0 i.t ∗ stgPts c cc0_stg6_0 i.wm ∗ stgPts c cc0_stg7_0 i.f1 ∗ stgPts c cc0_stg8_0 i.f2)

abbrev theBody : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _) (Memref.whole cc0_stg8_0) (Memref.isWhole_whole _)
    (Memref.whole cc0_stg9_0) (Memref.isWhole_whole _) (Memref.whole cc0_scratch0) (Memref.isWhole_whole _) cc0_scratch1 cc0_scratch2

theorem hz2 : (![0, 0] : Fin 2 → Nat) = fun _ => 0 := funext fun a => by fin_cases a <;> rfl

theorem read_stg1 (f : (cc0_stg1_0 : Ref sig .tc).ty.Contents (Elt F)) : (Memref.whole cc0_stg1_0 : Memref sig .tc .vmem S512x256 .bf16).view.readAt (Elt F)
    (Rect.unit (s := S512x256) ![0, 0] S512x256.size inb_S512x256_S512x256_0_0).toLoadRect f = f := Memref.readAt_unit_zero (Elt F) cc0_stg1_0 hz2 _ f
theorem read_stg2 (f : (cc0_stg2_0 : Ref sig .tc).ty.Contents (Elt F)) : (Memref.whole cc0_stg2_0 : Memref sig .tc .vmem S512x256 .bf16).view.readAt (Elt F)
    (Rect.unit (s := S512x256) ![0, 0] S512x256.size inb_S512x256_S512x256_0_0).toLoadRect f = f := Memref.readAt_unit_zero (Elt F) cc0_stg2_0 hz2 _ f
theorem read_stg3 (f : (cc0_stg3_0 : Ref sig .tc).ty.Contents (Elt F)) : (Memref.whole cc0_stg3_0 : Memref sig .tc .vmem S512x256 .bf16).view.readAt (Elt F)
    (Rect.unit (s := S512x256) ![0, 0] S512x256.size inb_S512x256_S512x256_0_0).toLoadRect f = f := Memref.readAt_unit_zero (Elt F) cc0_stg3_0 hz2 _ f
theorem read_stg4 (f : (cc0_stg4_0 : Ref sig .tc).ty.Contents (Elt F)) : (Memref.whole cc0_stg4_0 : Memref sig .tc .vmem S256x512 .bf16).view.readAt (Elt F)
    (Rect.unit (s := S256x512) ![0, 0] S256x512.size inb_S256x512_S256x512_0_0).toLoadRect f = f := Memref.readAt_unit_zero (Elt F) cc0_stg4_0 hz2 _ f
theorem read_stg5 (f : (cc0_stg5_0 : Ref sig .tc).ty.Contents (Elt F)) : (Memref.whole cc0_stg5_0 : Memref sig .tc .vmem S2x128 .bf16).view.readAt (Elt F)
    (Rect.unit (s := S2x128) ![0, 0] S2x128.size inb_S2x128_S2x128_0_0).toLoadRect f = f := Memref.readAt_unit_zero (Elt F) cc0_stg5_0 hz2 _ f
theorem read_stg6 (f : (cc0_stg6_0 : Ref sig .tc).ty.Contents (Elt F)) : (Memref.whole cc0_stg6_0 : Memref sig .tc .vmem S128x3072 .bf16).view.readAt (Elt F)
    (Rect.unit (s := S128x3072) ![0, 0] S128x3072.size inb_S128x3072_S128x3072_0_0).toLoadRect f = f := Memref.readAt_unit_zero (Elt F) cc0_stg6_0 hz2 _ f
theorem read_stg7 (f : (cc0_stg7_0 : Ref sig .tc).ty.Contents (Elt F)) : (Memref.whole cc0_stg7_0 : Memref sig .tc .vmem S512x512 .bf16).view.readAt (Elt F)
    (Rect.unit (s := S512x512) ![0, 0] S512x512.size inb_S512x512_S512x512_0_0).toLoadRect f = f := Memref.readAt_unit_zero (Elt F) cc0_stg7_0 hz2 _ f
theorem read_stg8 (f : (cc0_stg8_0 : Ref sig .tc).ty.Contents (Elt F)) : (Memref.whole cc0_stg8_0 : Memref sig .tc .vmem S512x512 .bf16).view.readAt (Elt F)
    (Rect.unit (s := S512x512) ![0, 0] S512x512.size inb_S512x512_S512x512_0_0).toLoadRect f = f := Memref.readAt_unit_zero (Elt F) cc0_stg8_0 hz2 _ f

variable (I : Dev nD → Ins F) (K : Dev nD × Option Xf → ℕ)

set_option maxHeartbeats 4000000 in
theorem sound_body (c : Dev nD) (W : Waits sig Unit) (Kt : PUnit → sProp 𝕄) :
    iprop((shared (X I) K ∗ levAts L lv ∗ readyB (F := F) c ∗ (bigSep Finset.univ fun e => ready (F := F) c e)
          ∗ (bigSep Finset.univ fun e => slotAny (F := F) c (src e)) ∗ (bigSep Finset.univ fun e => slotAny (F := F) c (dst e))
          ∗ owes (c : Thread nD τ) (O₀ c) W ∗ inputs c (I c) ∗ ∃ g, stgPts c cc0_stg9_0 g)
        ∗ ((semVal (barCell c) 0 ∗ (bigSep Finset.univ fun e => closed (F := F) c e)
            ∗ (bigSep Finset.univ fun e => slotAny (F := F) c (src e)) ∗ (bigSep Finset.univ fun e => slotAny (F := F) c (dst e))
            ∗ owesAt (F := F) c 8 ∗ inputs c (I c) ∗ stgPts c cc0_stg9_0 (outAt I c)) -∗ Kt ⟨⟩))
      ⊢ run c theBody Kt := by
  unfold theBody run
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  simp only [bigSep8]
  unfold inputs
  iintro ⟨⟨#Hsh, #Hlev, Hb, ⟨Hr0, Hr1, Hr2, Hr3, Hr4, Hr5, Hr6, Hr7⟩, ⟨Hs0, Hs1, Hs2, Hs3, Hs4, Hs5, Hs6, Hs7⟩, Hl, HO, ⟨Hx, Hwq, Hwk, Hwv, Hwo, Ht, Hwm, Hf1, Hf2⟩, ⟨%g, Hout⟩⟩, Hk⟩
  iapply (wp_handshake (X I) K c _ _ (dev1_eq c) (dev2_eq c) W) $$ [Hb Hl HO]
  · isplitr; · iexact Hsh
    isplitr; · iexact Hlev
    isplitl [Hb]; · iexact Hb
    isplitl [Hl]; · rw [bigSep8]; iexact Hl
    iexact HO
  rw [bigSep8]
  iintro ⟨Hz, ⟨Hd0, Hd1, Hd2, Hd3, Hd4, Hd5, Hd6, Hd7⟩, HO⟩
  iapply (wp_load 𝒱₀ (c : Thread nD τ) none Set.univ (m := Memref.whole cc0_stg5_0) (Finset.subset_univ _)) $$ Ht; iintro Ht
  rw [read_stg5]
  iapply (wp_load 𝒱₀ (c : Thread nD τ) none Set.univ (m := Memref.whole cc0_stg6_0) (Finset.subset_univ _)) $$ Hwm; iintro Hwm
  rw [read_stg6]
  iapply (wp_load 𝒱₀ (c : Thread nD τ) none Set.univ (m := Memref.whole cc0_stg1_0) (Finset.subset_univ _)) $$ Hwq; iintro Hwq
  rw [read_stg1]
  iapply (wp_load 𝒱₀ (c : Thread nD τ) none Set.univ (m := Memref.whole cc0_stg2_0) (Finset.subset_univ _)) $$ Hwk; iintro Hwk
  rw [read_stg2]
  iapply (wp_load 𝒱₀ (c : Thread nD τ) none Set.univ (m := Memref.whole cc0_stg3_0) (Finset.subset_univ _)) $$ Hwv; iintro Hwv
  rw [read_stg3]
  iapply (wp_load 𝒱₀ (c : Thread nD τ) none Set.univ (m := Memref.whole cc0_stg4_0) (Finset.subset_univ _)) $$ Hwo; iintro Hwo
  rw [read_stg4]
  iapply (wp_load 𝒱₀ (c : Thread nD τ) none Set.univ (m := Memref.whole cc0_stg0_0) (Finset.subset_univ _)) $$ Hx; iintro Hx
  simp only [k0_part2_eq_skeleton]; unfold k0_part2_skel
  simp only [Prog.lift, Prog.bind_op, Prog.bind_ret, Prog.pure_eq_ret]
  iapply (wp_load 𝒱₀ (c : Thread nD τ) none Set.univ (m := Memref.whole cc0_stg0_0) (Finset.subset_univ _)) $$ Hx; iintro Hx
  simp only [k0_part3_eq_skeleton]; unfold k0_part3_skel
  simp only [Prog.lift, Prog.bind_op, Prog.bind_ret, Prog.pure_eq_ret]
  simp only [k0_part4_eq_skeleton]; unfold k0_part4_skel
  simp only [Prog.lift, Prog.bind_op, Prog.bind_ret, Prog.pure_eq_ret]
  iapply (wp_load_any c (src 0)) $$ Hs0; iintro %_ Hs0
  iapply (wp_store_slot c (src 0) (X I 0 c)) $$ Hs0; iintro Hs0
  iapply (wp_send (X I) K c _ 0 (dev3_eq c) (sq := sendQ 0) (rq := recvQ 0) rfl rfl) $$ [Hr0 Hs0 Hd0 HO]
  · isplitr; · iexact Hsh
    isplitl [Hr0]; · iexact Hr0
    isplitl [Hs0]; · iexact Hs0
    isplitl [Hd0]; · iexact Hd0
    iexact HO
  iintro ⟨Hr0, HO⟩
  simp only [k0_part5_eq_skeleton]; unfold k0_part5_skel
  simp only [Prog.lift, Prog.bind_op, Prog.bind_ret, Prog.pure_eq_ret]
  simp only [k0_part6_eq_skeleton]; unfold k0_part6_skel
  simp only [Prog.lift, Prog.bind_op, Prog.bind_ret, Prog.pure_eq_ret]
  simp only [k0_part7_eq_skeleton]; unfold k0_part7_skel
  simp only [Prog.lift, Prog.bind_op, Prog.bind_ret, Prog.pure_eq_ret]
  iapply (wp_load_any c (src 1)) $$ Hs1; iintro %_ Hs1
  iapply (wp_store_slot c (src 1) (X I 1 c)) $$ Hs1; iintro Hs1
  iapply (wp_send (X I) K c _ 1 (dev4_eq c) (sq := sendQ 1) (rq := recvQ 1) rfl rfl) $$ [Hr1 Hs1 Hd1 HO]
  · isplitr; · iexact Hsh
    isplitl [Hr1]; · iexact Hr1
    isplitl [Hs1]; · iexact Hs1
    isplitl [Hd1]; · iexact Hd1
    iexact HO
  iintro ⟨Hr1, HO⟩
  simp only [k0_part8_eq_skeleton]; unfold k0_part8_skel
  simp only [Prog.lift, Prog.bind_op, Prog.bind_ret, Prog.pure_eq_ret]
  iapply (wp_wait_send (X I) K c 0 2 (sq := sendQ 0) rfl (i := dst 0) (i' := src 0)) $$ [Hr0 HO]
  · isplitr; · iexact Hsh
    isplitr; · iexact Hlev
    isplitl [Hr0]; · iexact Hr0
    iexact HO
  iintro ⟨Hr0, Hs0, HO⟩
  iapply (wp_wait_recv (X I) K c 0 2 (by decide) (rq := recvQ 0) rfl (i := src 0) (i' := dst 0)) $$ [Hr0 HO]
  · isplitr; · iexact Hsh
    isplitr; · iexact Hlev
    isplitl [Hr0]; · iexact Hr0
    iexact HO
  iintro ⟨Hr0, Hd0, HO⟩
  iapply (wp_load_slot c (src 0) (X I 0 c)) $$ Hs0; iintro Hs0
  iapply (wp_load_slot c (dst 0) (X I 0 (pt 0 c))) $$ Hd0; iintro Hd0
  iapply (wp_load_any c (src 2)) $$ Hs2; iintro %_ Hs2
  iapply (wp_store_slot c (src 2) (X I 2 c)) $$ Hs2; iintro Hs2
  simp only [k0_part9_eq_skeleton]; unfold k0_part9_skel
  simp only [Prog.lift, Prog.bind_op, Prog.bind_ret, Prog.pure_eq_ret]
  iapply (wp_send (X I) K c _ 2 (dev5_eq c) (sq := sendQ 2) (rq := recvQ 2) rfl rfl) $$ [Hr2 Hs2 Hd2 HO]
  · isplitr; · iexact Hsh
    isplitl [Hr2]; · iexact Hr2
    isplitl [Hs2]; · iexact Hs2
    isplitl [Hd2]; · iexact Hd2
    iexact HO
  iintro ⟨Hr2, HO⟩
  iapply (wp_wait_send (X I) K c 1 3 (sq := sendQ 1) rfl (i := dst 1) (i' := src 1)) $$ [Hr1 HO]
  · isplitr; · iexact Hsh
    isplitr; · iexact Hlev
    isplitl [Hr1]; · iexact Hr1
    iexact HO
  iintro ⟨Hr1, Hs1, HO⟩
  iapply (wp_wait_recv (X I) K c 1 3 (by decide) (rq := recvQ 1) rfl (i := src 1) (i' := dst 1)) $$ [Hr1 HO]
  · isplitr; · iexact Hsh
    isplitr; · iexact Hlev
    isplitl [Hr1]; · iexact Hr1
    iexact HO
  iintro ⟨Hr1, Hd1, HO⟩
  iapply (wp_load_slot c (src 1) (X I 1 c)) $$ Hs1; iintro Hs1
  iapply (wp_load_slot c (dst 1) (X I 1 (pt 1 c))) $$ Hd1; iintro Hd1
  iapply (wp_load_any c (src 3)) $$ Hs3; iintro %_ Hs3
  simp only [k0_part10_eq_skeleton]; unfold k0_part10_skel
  simp only [Prog.lift, Prog.bind_op, Prog.bind_ret, Prog.pure_eq_ret]
  iapply (wp_store_slot c (src 3) (X I 3 c)) $$ Hs3; iintro Hs3
  iapply (wp_send (X I) K c _ 3 (dev6_eq c) (sq := sendQ 3) (rq := recvQ 3) rfl rfl) $$ [Hr3 Hs3 Hd3 HO]
  · isplitr; · iexact Hsh
    isplitl [Hr3]; · iexact Hr3
    isplitl [Hs3]; · iexact Hs3
    isplitl [Hd3]; · iexact Hd3
    iexact HO
  iintro ⟨Hr3, HO⟩
  iapply (wp_wait_send (X I) K c 2 4 (sq := sendQ 2) rfl (i := dst 2) (i' := src 2)) $$ [Hr2 HO]
  · isplitr; · iexact Hsh
    isplitr; · iexact Hlev
    isplitl [Hr2]; · iexact Hr2
    iexact HO
  iintro ⟨Hr2, Hs2, HO⟩
  iapply (wp_wait_recv (X I) K c 2 4 (by decide) (rq := recvQ 2) rfl (i := src 2) (i' := dst 2)) $$ [Hr2 HO]
  · isplitr; · iexact Hsh
    isplitr; · iexact Hlev
    isplitl [Hr2]; · iexact Hr2
    iexact HO
  iintro ⟨Hr2, Hd2, HO⟩
  simp only [k0_part11_eq_skeleton]; unfold k0_part11_skel
  simp only [Prog.lift, Prog.bind_op, Prog.bind_ret, Prog.pure_eq_ret]
  iapply (wp_load_slot c (src 2) (X I 2 c)) $$ Hs2; iintro Hs2
  iapply (wp_load_slot c (dst 2) (X I 2 (pt 2 c))) $$ Hd2; iintro Hd2
  iapply (wp_load 𝒱₀ (c : Thread nD τ) none Set.univ (m := Memref.whole cc0_stg7_0) (Finset.subset_univ _)) $$ Hf1; iintro Hf1
  rw [read_stg7]
  iapply (wp_load 𝒱₀ (c : Thread nD τ) none Set.univ (m := Memref.whole cc0_stg8_0) (Finset.subset_univ _)) $$ Hf2; iintro Hf2
  rw [read_stg8]
  simp only [k0_part12_eq_skeleton]; unfold k0_part12_skel
  simp only [Prog.lift, Prog.bind_op, Prog.bind_ret, Prog.pure_eq_ret]
  iapply (wp_load_any c (src 4)) $$ Hs4; iintro %_ Hs4
  iapply (wp_store_slot c (src 4) (X I 4 c)) $$ Hs4; iintro Hs4
  iapply (wp_send (X I) K c _ 4 (dev7_eq c) (sq := sendQ 4) (rq := recvQ 4) rfl rfl) $$ [Hr4 Hs4 Hd4 HO]
  · isplitr; · iexact Hsh
    isplitl [Hr4]; · iexact Hr4
    isplitl [Hs4]; · iexact Hs4
    isplitl [Hd4]; · iexact Hd4
    iexact HO
  iintro ⟨Hr4, HO⟩
  iapply (wp_wait_send (X I) K c 3 5 (sq := sendQ 3) rfl (i := dst 3) (i' := src 3)) $$ [Hr3 HO]
  · isplitr; · iexact Hsh
    isplitr; · iexact Hlev
    isplitl [Hr3]; · iexact Hr3
    iexact HO
  iintro ⟨Hr3, Hs3, HO⟩
  simp only [k0_part13_eq_skeleton]; unfold k0_part13_skel
  simp only [Prog.lift, Prog.bind_op, Prog.bind_ret, Prog.pure_eq_ret]
  iapply (wp_wait_recv (X I) K c 3 5 (by decide) (rq := recvQ 3) rfl (i := src 3) (i' := dst 3)) $$ [Hr3 HO]
  · isplitr; · iexact Hsh
    isplitr; · iexact Hlev
    isplitl [Hr3]; · iexact Hr3
    iexact HO
  iintro ⟨Hr3, Hd3, HO⟩
  iapply (wp_load_slot c (src 3) (X I 3 c)) $$ Hs3; iintro Hs3
  iapply (wp_load_slot c (dst 3) (X I 3 (pt 3 c))) $$ Hd3; iintro Hd3
  iapply (wp_load 𝒱₀ (c : Thread nD τ) none Set.univ (m := Memref.whole cc0_stg7_0) (Finset.subset_univ _)) $$ Hf1; iintro Hf1
  rw [read_stg7]
  simp only [k0_part14_eq_skeleton]; unfold k0_part14_skel
  simp only [Prog.lift, Prog.bind_op, Prog.bind_ret, Prog.pure_eq_ret]
  iapply (wp_load 𝒱₀ (c : Thread nD τ) none Set.univ (m := Memref.whole cc0_stg8_0) (Finset.subset_univ _)) $$ Hf2; iintro Hf2
  rw [read_stg8]
  iapply (wp_load_any c (src 5)) $$ Hs5; iintro %_ Hs5
  iapply (wp_store_slot c (src 5) (X I 5 c)) $$ Hs5; iintro Hs5
  iapply (wp_send (X I) K c _ 5 (dev8_eq c) (sq := sendQ 5) (rq := recvQ 5) rfl rfl) $$ [Hr5 Hs5 Hd5 HO]
  · isplitr; · iexact Hsh
    isplitl [Hr5]; · iexact Hr5
    isplitl [Hs5]; · iexact Hs5
    isplitl [Hd5]; · iexact Hd5
    iexact HO
  iintro ⟨Hr5, HO⟩
  iapply (wp_wait_send (X I) K c 4 6 (sq := sendQ 4) rfl (i := dst 4) (i' := src 4)) $$ [Hr4 HO]
  · isplitr; · iexact Hsh
    isplitr; · iexact Hlev
    isplitl [Hr4]; · iexact Hr4
    iexact HO
  iintro ⟨Hr4, Hs4, HO⟩
  simp only [k0_part15_eq_skeleton]; unfold k0_part15_skel
  simp only [Prog.lift, Prog.bind_op, Prog.bind_ret, Prog.pure_eq_ret]
  iapply (wp_wait_recv (X I) K c 4 6 (by decide) (rq := recvQ 4) rfl (i := src 4) (i' := dst 4)) $$ [Hr4 HO]
  · isplitr; · iexact Hsh
    isplitr; · iexact Hlev
    isplitl [Hr4]; · iexact Hr4
    iexact HO
  iintro ⟨Hr4, Hd4, HO⟩
  iapply (wp_load_slot c (src 4) (X I 4 c)) $$ Hs4; iintro Hs4
  iapply (wp_load_slot c (dst 4) (X I 4 (pt 4 c))) $$ Hd4; iintro Hd4
  iapply (wp_load_any c (src 6)) $$ Hs6; iintro %_ Hs6
  iapply (wp_store_slot c (src 6) (X I 6 c)) $$ Hs6; iintro Hs6
  iapply (wp_send (X I) K c _ 6 (dev9_eq c) (sq := sendQ 6) (rq := recvQ 6) rfl rfl) $$ [Hr6 Hs6 Hd6 HO]
  · isplitr; · iexact Hsh
    isplitl [Hr6]; · iexact Hr6
    isplitl [Hs6]; · iexact Hs6
    isplitl [Hd6]; · iexact Hd6
    iexact HO
  iintro ⟨Hr6, HO⟩
  simp only [k0_part16_eq_skeleton]; unfold k0_part16_skel
  simp only [Prog.lift, Prog.bind_op, Prog.bind_ret, Prog.pure_eq_ret]
  iapply (wp_wait_send (X I) K c 5 7 (sq := sendQ 5) rfl (i := dst 5) (i' := src 5)) $$ [Hr5 HO]
  · isplitr; · iexact Hsh
    isplitr; · iexact Hlev
    isplitl [Hr5]; · iexact Hr5
    iexact HO
  iintro ⟨Hr5, Hs5, HO⟩
  iapply (wp_wait_recv (X I) K c 5 7 (by decide) (rq := recvQ 5) rfl (i := src 5) (i' := dst 5)) $$ [Hr5 HO]
  · isplitr; · iexact Hsh
    isplitr; · iexact Hlev
    isplitl [Hr5]; · iexact Hr5
    iexact HO
  iintro ⟨Hr5, Hd5, HO⟩
  iapply (wp_load_slot c (src 5) (X I 5 c)) $$ Hs5; iintro Hs5
  iapply (wp_load_slot c (dst 5) (X I 5 (pt 5 c))) $$ Hd5; iintro Hd5
  iapply (wp_load_any c (src 7)) $$ Hs7; iintro %_ Hs7
  iapply (wp_store_slot c (src 7) (X I 7 c)) $$ Hs7; iintro Hs7
  simp only [k0_part17_eq_skeleton]; unfold k0_part17_skel
  simp only [Prog.lift, Prog.bind_op, Prog.bind_ret, Prog.pure_eq_ret]
  iapply (wp_send (X I) K c _ 7 (dev10_eq c) (sq := sendQ 7) (rq := recvQ 7) rfl rfl) $$ [Hr7 Hs7 Hd7 HO]
  · isplitr; · iexact Hsh
    isplitl [Hr7]; · iexact Hr7
    isplitl [Hs7]; · iexact Hs7
    isplitl [Hd7]; · iexact Hd7
    iexact HO
  iintro ⟨Hr7, HO⟩
  iapply (wp_wait_send (X I) K c 6 8 (sq := sendQ 6) rfl (i := dst 6) (i' := src 6)) $$ [Hr6 HO]
  · isplitr; · iexact Hsh
    isplitr; · iexact Hlev
    isplitl [Hr6]; · iexact Hr6
    iexact HO
  iintro ⟨Hr6, Hs6, HO⟩
  iapply (wp_wait_recv (X I) K c 6 8 (by decide) (rq := recvQ 6) rfl (i := src 6) (i' := dst 6)) $$ [Hr6 HO]
  · isplitr; · iexact Hsh
    isplitr; · iexact Hlev
    isplitl [Hr6]; · iexact Hr6
    iexact HO
  iintro ⟨Hr6, Hd6, HO⟩
  iapply (wp_load_slot c (src 6) (X I 6 c)) $$ Hs6; iintro Hs6
  iapply (wp_load_slot c (dst 6) (X I 6 (pt 6 c))) $$ Hd6; iintro Hd6
  simp only [k0_part18_eq_skeleton]; unfold k0_part18_skel
  simp only [Prog.lift, Prog.bind_op, Prog.bind_ret, Prog.pure_eq_ret]
  iapply (wp_load 𝒱₀ (c : Thread nD τ) none Set.univ (m := Memref.whole cc0_stg9_0) (Finset.subset_univ _)) $$ Hout; iintro Hout
  iapply (wp_store 𝒱₀ (c : Thread nD τ) none Set.univ (m := Memref.whole cc0_stg9_0) (r := rx0) (Mk := Finset.univ) (Finset.subset_univ _)) $$ Hout; iintro Hout
  iapply (wp_wait_send (X I) K c 7 8 (sq := sendQ 7) rfl (i := dst 7) (i' := src 7)) $$ [Hr7 HO]
  · isplitr; · iexact Hsh
    isplitr; · iexact Hlev
    isplitl [Hr7]; · iexact Hr7
    iexact HO
  iintro ⟨Hr7, Hs7, HO⟩
  iapply (wp_wait_recv (X I) K c 7 8 (by decide) (rq := recvQ 7) rfl (i := src 7) (i' := dst 7)) $$ [Hr7 HO]
  · isplitr; · iexact Hsh
    isplitr; · iexact Hlev
    isplitl [Hr7]; · iexact Hr7
    iexact HO
  iintro ⟨Hr7, Hd7, HO⟩
  iapply (wp_load_slot c (src 7) (X I 7 c)) $$ Hs7; iintro Hs7
  iapply (wp_load_slot c (dst 7) (X I 7 (pt 7 c))) $$ Hd7; iintro Hd7
  iapply (wp_load 𝒱₀ (c : Thread nD τ) none Set.univ (m := Memref.whole cc0_stg9_0) (Finset.subset_univ _)) $$ Hout; iintro Hout
  iapply (wp_store 𝒱₀ (c : Thread nD τ) none Set.univ (m := Memref.whole cc0_stg9_0) (r := rx1) (Mk := Finset.univ) (Finset.subset_univ _)) $$ Hout; iintro Hout
  rw [wp_ret]; imodintro
  iapply Hk
  isplitl [Hz]; · iexact Hz
  isplitl [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6] <;> iassumption
  isplitl [Hs0 Hs1 Hs2 Hs3 Hs4 Hs5 Hs6 Hs7]
  · isplitl [Hs0]; · iapply (slotPts_any c _ _); iexact Hs0
    isplitl [Hs1]; · iapply (slotPts_any c _ _); iexact Hs1
    isplitl [Hs2]; · iapply (slotPts_any c _ _); iexact Hs2
    isplitl [Hs3]; · iapply (slotPts_any c _ _); iexact Hs3
    isplitl [Hs4]; · iapply (slotPts_any c _ _); iexact Hs4
    isplitl [Hs5]; · iapply (slotPts_any c _ _); iexact Hs5
    isplitl [Hs6]; · iapply (slotPts_any c _ _); iexact Hs6
    iapply (slotPts_any c _ _); iexact Hs7
  isplitl [Hd0 Hd1 Hd2 Hd3 Hd4 Hd5 Hd6 Hd7]
  · isplitl [Hd0]; · iapply (slotPts_any c _ _); iexact Hd0
    isplitl [Hd1]; · iapply (slotPts_any c _ _); iexact Hd1
    isplitl [Hd2]; · iapply (slotPts_any c _ _); iexact Hd2
    isplitl [Hd3]; · iapply (slotPts_any c _ _); iexact Hd3
    isplitl [Hd4]; · iapply (slotPts_any c _ _); iexact Hd4
    isplitl [Hd5]; · iapply (slotPts_any c _ _); iexact Hd5
    isplitl [Hd6]; · iapply (slotPts_any c _ _); iexact Hd6
    iapply (slotPts_any c _ _); iexact Hd7
  isplitl [HO]; · iexact HO
  isplitl [Hx Hwq Hwk Hwv Hwo Ht Hwm Hf1 Hf2]
  · isplitl [Hx]; · iexact Hx
    isplitl [Hwq]; · iexact Hwq
    isplitl [Hwk]; · iexact Hwk
    isplitl [Hwv]; · iexact Hwv
    isplitl [Hwo]; · iexact Hwo
    isplitl [Ht]; · iexact Ht
    isplitl [Hwm]; · iexact Hwm
    isplitl [Hf1] <;> iassumption
  rw [write_rows]
  iexact Hout

end Cert.KernelIdeal.Ring

end
-- ==== Proof.KI.Launch.lean ====
module

public import proofs.«01_k».proof.Proof.KI.Body
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

/-!
# The launch

The pipeline's data for the one kernel call, the body's obligation from `sound_body`, what the launch deals each device
(its cells, the duties it pays and the credits it starts with), and the run of the whole program: it terminates, the
arguments are unchanged, each device's result is `outAt`, and every semaphore is back at zero.
-/

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-- What the pipeline stages for device `c`. -/
def stIn (c : Dev nD) : Ins F where
  x := (win0_0.blk (0 : Fin 1)).view.read (Elt F) ((s₀ m ρ).mem ((c : Thread nD τ).loc main_arg0))
  wq := (win0_1.blk (0 : Fin 1)).view.read (Elt F) ((s₀ m ρ).mem ((c : Thread nD τ).loc main_arg1))
  wk := (win0_2.blk (0 : Fin 1)).view.read (Elt F) ((s₀ m ρ).mem ((c : Thread nD τ).loc main_arg2))
  wv := (win0_3.blk (0 : Fin 1)).view.read (Elt F) ((s₀ m ρ).mem ((c : Thread nD τ).loc main_arg3))
  wo := (win0_4.blk (0 : Fin 1)).view.read (Elt F) ((s₀ m ρ).mem ((c : Thread nD τ).loc main_arg4))
  t := (win0_5.blk (0 : Fin 1)).view.read (Elt F) ((s₀ m ρ).mem ((c : Thread nD τ).loc main_arg5))
  wm := (win0_6.blk (0 : Fin 1)).view.read (Elt F) ((s₀ m ρ).mem ((c : Thread nD τ).loc main_arg6))
  f1 := (win0_7.blk (0 : Fin 1)).view.read (Elt F) ((s₀ m ρ).mem ((c : Thread nD τ).loc main_arg7))
  f2 := (win0_8.blk (0 : Fin 1)).view.read (Elt F) ((s₀ m ρ).mem ((c : Thread nD τ).loc main_arg8))

/-- The exchanged blocks of this launch. -/
abbrev XX : Fin 8 → Dev nD → Blk F := X (stIn m ρ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; simp only [t₀, Fin.mk.injEq]; omega

abbrev scratchAny (c : Dev nD) : sProp 𝕄 :=
  iprop(∃ f : Buf (Elt F) ((c : Thread nD τ).loc cc0_scratch0), ((c : Thread nD τ).loc cc0_scratch0) ↦{fullShare} f)

/-- Before the one grid point: everything the body starts from, and the exchange buffer. -/
def Φ₀ (c : Dev nD) : sProp 𝕄 := iprop(start (XX m ρ) c ∗ scratchAny (F := F) c)
/-- After it: every cell closed at zero, and the exchange buffer back. -/
def Φ₁ (c : Dev nD) : sProp 𝕄 := iprop(semVal (barCell c) 0 ∗ (bigSep Finset.univ fun e => closed (F := F) c e) ∗ scratchAny (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (stIn m ρ c).x
    | ⟨1, _⟩ => (stIn m ρ c).wq
    | ⟨2, _⟩ => (stIn m ρ c).wk
    | ⟨3, _⟩ => (stIn m ρ c).wv
    | ⟨4, _⟩ => (stIn m ρ c).wo
    | ⟨5, _⟩ => (stIn m ρ c).t
    | ⟨6, _⟩ => (stIn m ρ c).wm
    | ⟨7, _⟩ => (stIn m ρ c).f1
    | ⟨8, _⟩ => (stIn m ρ c).f2
    | ⟨9, _⟩ => outAt (stIn m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body's obligation -/

theorem bigSep_W (Φ : Fin cfg0.W → sProp 𝕄) : bigSep Finset.univ Φ
    = iprop(Φ (0 : Fin 10) ∗ Φ (1 : Fin 10) ∗ Φ (2 : Fin 10) ∗ Φ (3 : Fin 10) ∗ Φ (4 : Fin 10) ∗ Φ (5 : Fin 10) ∗ Φ (6 : Fin 10) ∗ Φ (7 : Fin 10) ∗ Φ (8 : Fin 10) ∗ Φ (9 : Fin 10)) := bigSep_W0 Φ

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 10) t₀ d))
    ∗ (∃ d, stg c cc0_stg1_0 ((dats m ρ 0 c).before (1 : Fin 10) t₀ d))
    ∗ (∃ d, stg c cc0_stg2_0 ((dats m ρ 0 c).before (2 : Fin 10) t₀ d))
    ∗ (∃ d, stg c cc0_stg3_0 ((dats m ρ 0 c).before (3 : Fin 10) t₀ d))
    ∗ (∃ d, stg c cc0_stg4_0 ((dats m ρ 0 c).before (4 : Fin 10) t₀ d))
    ∗ (∃ d, stg c cc0_stg5_0 ((dats m ρ 0 c).before (5 : Fin 10) t₀ d))
    ∗ (∃ d, stg c cc0_stg6_0 ((dats m ρ 0 c).before (6 : Fin 10) t₀ d))
    ∗ (∃ d, stg c cc0_stg7_0 ((dats m ρ 0 c).before (7 : Fin 10) t₀ d))
    ∗ (∃ d, stg c cc0_stg8_0 ((dats m ρ 0 c).before (8 : Fin 10) t₀ d))
    ∗ (∃ d, stg c cc0_stg9_0 ((dats m ρ 0 c).before (9 : Fin 10) t₀ d)))

def bodyPost (c : Dev nD) : sProp 𝕄 :=
  iprop(Φ₁ c ∗ (dats m ρ 0 c).owesAt () t₀.succ
    ∗ stg c cc0_stg0_0 (stIn m ρ c).x ∗ stg c cc0_stg1_0 (stIn m ρ c).wq ∗ stg c cc0_stg2_0 (stIn m ρ c).wk ∗ stg c cc0_stg3_0 (stIn m ρ c).wv
    ∗ stg c cc0_stg4_0 (stIn m ρ c).wo ∗ stg c cc0_stg5_0 (stIn m ρ c).t ∗ stg c cc0_stg6_0 (stIn m ρ c).wm ∗ stg c cc0_stg7_0 (stIn m ρ c).f1
    ∗ stg c cc0_stg8_0 (stIn m ρ c).f2 ∗ stg c cc0_stg9_0 (outAt (stIn m ρ) c))

/-- A fetched window's staging buffer holds its block before the point. -/
theorem stg_before (c : Dev nD) (b : Ref sig .tc) (Y Z : b.ty.Contents (Elt F)) (h : Y = Z) :
    (stg c b Y : sProp 𝕄) ⊢ stgPts c b Z := by
  iintro ⟨%f, %hf, H⟩
  rw [← h, ← hf]; iexact H
theorem stg_after (c : Dev nD) (b : Ref sig .tc) (Y : b.ty.Contents (Elt F)) : (stgPts c b Y : sProp 𝕄) ⊢ stg c b Y := by
  iintro H; iexists Y
  isplitr; · (ipureintro; rfl)
  iexact H
theorem stg_some (c : Dev nD) (b : Ref sig .tc) {D : Type} (Y : D → b.ty.Contents (Elt F)) :
    (iprop(∃ d, stg c b (Y d)) : sProp 𝕄) ⊢ iprop(∃ g, stgPts c b g) := by
  iintro ⟨%d, %f, -, H⟩; iexists f; iexact H
theorem stg_fetched (c : Dev nD) (b : Ref sig .tc) {D : Type} (Y : D → b.ty.Contents (Elt F)) (Z : b.ty.Contents (Elt F)) (h : ∀ d, Y d = Z) :
    (iprop(∃ d, stg c b (Y d)) : sProp 𝕄) ⊢ stgPts c b Z := by
  iintro ⟨%d, H⟩; iapply (stg_before c b (Y d) Z (h d)); iexact H

theorem start_open (c : Dev nD) : (start (XX m ρ) c : sProp 𝕄)
    ⊢ iprop(∃ K, shared (XX m ρ) K ∗ levAts L lv ∗ readyB (F := F) c ∗ bigSep Finset.univ fun e => ready (F := F) c e) := by
  unfold start
  iintro ⟨⟨%K, H⟩, Hr⟩; iexists K
  isplitl [H]; · iexact H
  iexact Hr

theorem scratch_slots (c : Dev nD) : (scratchAny (F := F) c : sProp 𝕄)
    ⊢ iprop((bigSep Finset.univ fun e => slotAny (F := F) c (src e)) ∗ (bigSep Finset.univ fun e => slotAny (F := F) c (dst e))) :=
  (scratch_split c).trans (Entails.of_eq (slots_eq fun i => slotAny (F := F) c i))
theorem slots_scratch (c : Dev nD) : iprop((bigSep Finset.univ fun e => slotAny (F := F) c (src e)) ∗ (bigSep Finset.univ fun e => slotAny (F := F) c (dst e)))
    ⊢ (scratchAny (F := F) c : sProp 𝕄) :=
  (Entails.of_eq (slots_eq fun i => slotAny (F := F) c i).symm).trans (scratch_join c)

theorem pre_inputs (c : Dev nD) : (iprop(
    (∃ d, stg c cc0_stg0_0 ((dats m ρ 0 c).before (0 : Fin 10) t₀ d))
    ∗ (∃ d, stg c cc0_stg1_0 ((dats m ρ 0 c).before (1 : Fin 10) t₀ d))
    ∗ (∃ d, stg c cc0_stg2_0 ((dats m ρ 0 c).before (2 : Fin 10) t₀ d))
    ∗ (∃ d, stg c cc0_stg3_0 ((dats m ρ 0 c).before (3 : Fin 10) t₀ d))
    ∗ (∃ d, stg c cc0_stg4_0 ((dats m ρ 0 c).before (4 : Fin 10) t₀ d))
    ∗ (∃ d, stg c cc0_stg5_0 ((dats m ρ 0 c).before (5 : Fin 10) t₀ d))
    ∗ (∃ d, stg c cc0_stg6_0 ((dats m ρ 0 c).before (6 : Fin 10) t₀ d))
    ∗ (∃ d, stg c cc0_stg7_0 ((dats m ρ 0 c).before (7 : Fin 10) t₀ d))
    ∗ (∃ d, stg c cc0_stg8_0 ((dats m ρ 0 c).before (8 : Fin 10) t₀ d))) : sProp 𝕄) ⊢ inputs c (stIn m ρ c) := by
  unfold inputs
  refine BIClass.sep_mono (stg_fetched c cc0_stg0_0 _ _ fun d => by unfold Dat.before; rw [if_pos (fetch0_0 t₀)]; rfl) ?_
  refine BIClass.sep_mono (stg_fetched c cc0_stg1_0 _ _ fun d => by unfold Dat.before; rw [if_pos (fetch0_1 t₀)]; rfl) ?_
  refine BIClass.sep_mono (stg_fetched c cc0_stg2_0 _ _ fun d => by unfold Dat.before; rw [if_pos (fetch0_2 t₀)]; rfl) ?_
  refine BIClass.sep_mono (stg_fetched c cc0_stg3_0 _ _ fun d => by unfold Dat.before; rw [if_pos (fetch0_3 t₀)]; rfl) ?_
  refine BIClass.sep_mono (stg_fetched c cc0_stg4_0 _ _ fun d => by unfold Dat.before; rw [if_pos (fetch0_4 t₀)]; rfl) ?_
  refine BIClass.sep_mono (stg_fetched c cc0_stg5_0 _ _ fun d => by unfold Dat.before; rw [if_pos (fetch0_5 t₀)]; rfl) ?_
  refine BIClass.sep_mono (stg_fetched c cc0_stg6_0 _ _ fun d => by unfold Dat.before; rw [if_pos (fetch0_6 t₀)]; rfl) ?_
  refine BIClass.sep_mono (stg_fetched c cc0_stg7_0 _ _ fun d => by unfold Dat.before; rw [if_pos (fetch0_7 t₀)]; rfl) ?_
  exact stg_fetched c cc0_stg8_0 _ _ fun d => by unfold Dat.before; rw [if_pos (fetch0_8 t₀)]; rfl

theorem inputs_post (c : Dev nD) (i : Ins F) (o : (cc0_stg9_0 : Ref sig .tc).ty.Contents (Elt F)) :
    iprop(inputs c i ∗ stgPts c cc0_stg9_0 o) ⊢ (iprop(stg c cc0_stg0_0 i.x ∗ stg c cc0_stg1_0 i.wq ∗ stg c cc0_stg2_0 i.wk ∗ stg c cc0_stg3_0 i.wv
    ∗ stg c cc0_stg4_0 i.wo ∗ stg c cc0_stg5_0 i.t ∗ stg c cc0_stg6_0 i.wm ∗ stg c cc0_stg7_0 i.f1 ∗ stg c cc0_stg8_0 i.f2 ∗ stg c cc0_stg9_0 o) : sProp 𝕄) := by
  unfold inputs
  iintro ⟨⟨H0, H1, H2, H3, H4, H5, H6, H7, H8⟩, H9⟩
  isplitl [H0]; · iapply (stg_after c cc0_stg0_0 _); iexact H0
  isplitl [H1]; · iapply (stg_after c cc0_stg1_0 _); iexact H1
  isplitl [H2]; · iapply (stg_after c cc0_stg2_0 _); iexact H2
  isplitl [H3]; · iapply (stg_after c cc0_stg3_0 _); iexact H3
  isplitl [H4]; · iapply (stg_after c cc0_stg4_0 _); iexact H4
  isplitl [H5]; · iapply (stg_after c cc0_stg5_0 _); iexact H5
  isplitl [H6]; · iapply (stg_after c cc0_stg6_0 _); iexact H6
  isplitl [H7]; · iapply (stg_after c cc0_stg7_0 _); iexact H7
  isplitl [H8]; · iapply (stg_after c cc0_stg8_0 _); iexact H8
  iapply (stg_after c cc0_stg9_0 _); iexact H9

/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ run c theBody (fun _ => bodyPost m ρ c)
  unfold bodyPre Φ₀ Dat.owesAt Pipeline.owesWithin
  rw [show (dats m ρ 0 c).owed t₀.castSucc = O₀ c from rfl]
  iintro ⟨⟨Hst, Hscr⟩, ⟨%W, -, HO⟩, H0, H1, H2, H3, H4, H5, H6, H7, H8, H9⟩
  ihave Hst' := (start_open m ρ c) $$ Hst
  icases Hst' with ⟨%K, Hsh, Hlev, HB, HR⟩
  ihave Hsl := (scratch_slots (F := F) c) $$ Hscr
  icases Hsl with ⟨Hs, Hd⟩
  ihave Hin := (pre_inputs m ρ c) $$ [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  ihave Hout := (stg_some c cc0_stg9_0 fun d => (dats m ρ 0 c).before (9 : Fin 10) t₀ d) $$ H9
  iapply (sound_body (stIn m ρ) K c W fun _ => bodyPost m ρ c)
  isplitl [Hsh Hlev HB HR Hs Hd HO Hin Hout]
  · isplitl [Hsh]; · iexact Hsh
    isplitl [Hlev]; · iexact Hlev
    isplitl [HB]; · iexact HB
    isplitl [HR]; · iexact HR
    isplitl [Hs]; · iexact Hs
    isplitl [Hd]; · iexact Hd
    isplitl [HO]; · iexact HO
    isplitl [Hin]; · iexact Hin
    iexact Hout
  unfold bodyPost Φ₁ Dat.owesAt Pipeline.owesWithin owesAt
  rw [show (dats m ρ 0 c).owed t₀.succ = 0 from rfl, owe_done]
  iintro ⟨Hz, Hc, Hs, Hd, ⟨%W', HO⟩, Hin, Hout⟩
  isplitl [Hz Hc Hs Hd]
  · isplitl [Hz]; · iexact Hz
    isplitl [Hc]; · iexact Hc
    iapply (slots_scratch (F := F) c)
    isplitl [Hs]; · iexact Hs
    iexact Hd
  isplitl [HO]
  · iexists W'
    isplitr; · ipureintro; exact fun _ _ => Or.inl trivial
    iexact HO
  iapply (inputs_post c (stIn m ρ c) _)
  isplitl [Hin]; · iexact Hin
  iexact Hout

/-! ## What the launch deals -/

theorem bigSep_option {A : Type} [Fintype A] [DecidableEq A] (Φ : Option A → sProp 𝕄) :
    bigSep Finset.univ Φ = iprop(Φ none ∗ bigSep Finset.univ fun a => Φ (some a)) := by
  rw [show (Finset.univ : Finset (Option A)) = insert none (Finset.univ.map Function.Embedding.some) from by ext x; cases x <;> simp,
    bigSep_insert (by simp), bigSep_map]
  rfl
theorem bigSep_bool (Φ : Bool → sProp 𝕄) : bigSep Finset.univ Φ = iprop(Φ false ∗ Φ true) :=
  bigSep_univ_eq_bigSepL [false, true] (by decide) (by decide) Φ
theorem bigSep_Xf (Φ : Xf → sProp 𝕄) : bigSep Finset.univ Φ = bigSep Finset.univ fun e : Fin 8 => iprop(Φ (e, false) ∗ Φ (e, true)) := by
  rw [bigSep_univ_prod]; exact bigSep_congr fun e _ => bigSep_bool fun b => Φ (e, b)

theorem ownSemFacts : Pipeline.OwnSemFacts cfg0.spec osem := by decide
theorem share_eq (c : Dev nD) (w : Fin cfg0.W) : (dats m ρ 0 c).share w = fullShare := by unfold Dat.share; split <;> rfl

theorem osem_ne (x : Xf) : osem x ≠ .reg barS := by revert x; decide
theorem csem_injective : Function.Injective csem := by
  rintro (_ | x) (_ | y) h
  · rfl
  · exact absurd h.symm (osem_ne y)
  · exact absurd h (osem_ne x)
  · exact congrArg some (ownSemFacts.inj h)
theorem kcell_injective : Function.Injective (kcell : Dev nD × Option Xf → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of a device's own cells: each cell's `false`, and the barrier's `true`. -/
abbrev tokOf (p : Dev nD × Option (Option Xf)) : GSem nD τ sig × ℕ × Bool := match p.2 with
  | none => (barCell p.1, 0, true)
  | some k => (kcell (p.1, k), 0, false)
theorem tokOf_injective : Function.Injective tokOf := by
  rintro ⟨c, t⟩ ⟨c', t'⟩ h
  rcases t with _ | k <;> rcases t' with _ | k'
  · have h1 : c = c' := congrArg (fun x : GSem nD τ sig × ℕ × Bool => x.1.1.1) h
    rw [h1]
  · exact absurd (congrArg (fun x : GSem nD τ sig × ℕ × Bool => x.2.2) h) Bool.noConfusion
  · exact absurd (congrArg (fun x : GSem nD τ sig × ℕ × Bool => x.2.2) h) Bool.noConfusion
  · have h1 : (c, k) = (c', k') := kcell_injective (congrArg Prod.fst h)
    rw [(Prod.mk.injEq _ _ _ _ ▸ h1 : c = c' ∧ k = k').1, (Prod.mk.injEq _ _ _ _ ▸ h1 : c = c' ∧ k = k').2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop(dutyTok ER (barCell c) 0 true ∗ dutyTok ER (barCell c) 0 false
    ∗ bigSep Finset.univ fun e => iprop(dutyTok ER (sendCell e c) 0 false ∗ dutyTok ER (recvCell e c) 0 false))
/-- What the launch element deals device `c`. -/
def G (c : Dev nD) : sProp 𝕄 :=
  iprop((bigSep Finset.univ fun k => roundState ER (ringRd (XX m ρ)) (kcell (c, k)) 0)
    ∗ (bigSep Finset.univ fun k => iprop(atPos ER (kcell (c, k)) 0 ∅ 0 ∗ reached ER (kcell (c, k)) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Option Xf => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_option, bigSep_option, bigSep_Xf]; rfl
  iintro HX
  imod (Rounds.fund ER (ringRd (XX m ρ)) ringCells ringToks) $$ HX with ⟨Hst, Hr, Hat, Htok⟩
  imodintro
  ihave Hst' := (Entails.of_eq (hX fun g => roundState ER (ringRd (XX m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun e => closed c e := by
  unfold Pipeline.ownSems0; rw [bigSep_Xf]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [unscopedSems0_eq, bigSep_option]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd (XX m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option Xf => semVal (kcell (c, k)) 0) ∗ bigSep Finset.univ fun k : Option Xf => roundState ER (ringRd (XX m ρ)) (kcell (c, k)) 0)
      ⊢ (|={Set.univ}=> bigSep Finset.univ fun k => iprop(∃ κ : ℕ, cellInv ER (ringRd (XX m ρ)) κ (kcell (c, k))) : sProp 𝕄) from by
        rw [← bigSep_sep']
        exact (bigSep_mono fun k _ => (Rounds.body_intro ER (ringRd (XX m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties device `c` pays. -/
def payToks (c : Dev nD) : sProp 𝕄 :=
  iprop(dutyTok ER (barCell (pa c)) 0 true ∗ dutyTok ER (barCell (pb c)) 0 false
    ∗ bigSep Finset.univ fun e => iprop(dutyTok ER (sendCell e c) 0 false ∗ dutyTok ER (recvCell e (pt e c)) 0 false))
def linear (c : Dev nD) : sProp 𝕄 := iprop((bigSep Finset.univ fun k => atPos ER (kcell (c, k)) 0 ∅ 0) ∗ payToks c)
/-- What the global step makes of it. -/
def G' (c : Dev nD) : sProp 𝕄 := iprop(∃ K, shared (XX m ρ) K ∗ linear c)

theorem bigSep_swap {A B : Type} [Fintype A] [Fintype B] [DecidableEq A] [DecidableEq B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]; rfl

/-- Every duty dealt to the device that pays it: a cell's to its partner. -/
theorem toks_around : (bigSep Finset.univ fun c : Dev nD => (toks c : sProp 𝕄)) ⊢ bigSep Finset.univ fun c : Dev nD => payToks c := by
  have hR : (bigSep Finset.univ fun c : Dev nD => bigSep Finset.univ fun e => (dutyTok ER (recvCell e c) 0 false : sProp 𝕄))
      = bigSep Finset.univ fun c : Dev nD => bigSep Finset.univ fun e => dutyTok ER (recvCell e (pt e c)) 0 false := by
    rw [bigSep_swap, bigSep_swap fun (c : Dev nD) e => (dutyTok ER (recvCell e (pt e c)) 0 false : sProp 𝕄)]
    exact bigSep_congr fun e _ => bigSep_univ_equiv (Function.Involutive.toPerm (pt e) (pt_pt e)) fun c => dutyTok ER (recvCell e c) 0 false
  unfold toks payToks
  simp only [bigSep_sep']
  rw [hR, bigSep_univ_equiv (Function.Involutive.toPerm pa pa_pa) (fun c : Dev nD => (dutyTok ER (barCell c) 0 true : sProp 𝕄)),
    bigSep_univ_equiv (Function.Involutive.toPerm pb pb_pb) (fun c : Dev nD => (dutyTok ER (barCell c) 0 false : sProp 𝕄))]
  exact Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd (XX m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun p : Dev nD × Option Xf => iprop(∃ κ : ℕ, cellInv ER (ringRd (XX m ρ)) κ (kcell p))),
    bigSep_congr (s := Finset.univ) (fun (c : Dev nD) _ => bigSep_sep' Finset.univ (fun k : Option Xf => (atPos ER (kcell (c, k)) 0 ∅ 0 : sProp 𝕄)) (fun k => reached ER (kcell (c, k)) 0)),
    bigSep_sep', ← bigSep_univ_prod (fun p : Dev nD × Option Xf => (reached ER (kcell p) 0 : sProp 𝕄))]
  iintro ⟨HI, ⟨Hat, #HR⟩, Htok⟩
  ihave HK := (BI.bigSep_exists_pi Finset.univ (fun (p : Dev nD × Option Xf) (κ : ℕ) => (cellInv ER (ringRd (XX m ρ)) κ (kcell p) : sProp 𝕄))) $$ HI
  icases HK with ⟨%K, #HI⟩
  ihave Htk := (toks_around (F := F)) $$ Htok
  iapply (bigSep_with_persistent (R := shared (XX m ρ) K) (Φ := fun c => linear c) fun c _ => show iprop(shared (XX m ρ) K ∗ linear c) ⊢ G' m ρ c from by
    unfold G'; iintro H; iexists K; iexact H)
  isplitr
  · unfold shared; isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem bar_eq_iff {a b : Dev nD} : Iff (barCell a = barCell b) (a = b) :=
  ⟨fun h => congrArg (fun g : GSem nD τ sig => g.1.1) h, fun h => h ▸ rfl⟩
theorem recv_eq_iff {e e' : Fin 8} {a b : Dev nD} : Iff (recvCell e a = recvCell e' b) (e = e' ∧ a = b) :=
  ⟨fun h => have h' := kcell_injective (a₁ := (a, some (e, true))) (a₂ := (b, some (e', true))) h
    ⟨congrArg Prod.fst (Option.some.inj (congrArg Prod.snd h')), congrArg Prod.fst h'⟩, fun h => by rw [h.1, h.2]⟩
theorem recv_ne_bar (e : Fin 8) (a b : Dev nD) : recvCell e a ≠ barCell b := fun h => by cases congrArg Prod.snd h

theorem owe_bar (d c : Dev nD) : owe d 0 (barCell c) () = 0 := by
  by_contra h
  obtain ⟨e, -, he⟩ := owe_pos (Nat.pos_of_ne_zero h)
  exact recv_ne_bar e _ _ he.symm
theorem owed_bar (d c : Dev nD) : O₀ d (barCell c) () = (if d = pb c then 1 else 0) + (if d = pa c then 1 else 0) := by
  unfold O₀ O₁
  rw [Pi.add_apply, Finsupp.add_apply, Pi.add_apply, Finsupp.add_apply, owe_bar, tallyAt_apply, tallyAt_apply, Nat.zero_add]
  have hb : (barCell c = barCell (pb d) ∧ () = ()) ↔ d = pb c :=
    ⟨fun h => by rw [bar_eq_iff.mp h.1, pb_pb], fun h => ⟨by rw [h, pb_pb], rfl⟩⟩
  have ha : (barCell c = barCell (pa d) ∧ () = ()) ↔ d = pa c :=
    ⟨fun h => by rw [bar_eq_iff.mp h.1, pa_pa], fun h => ⟨by rw [h, pa_pa], rfl⟩⟩
  exact congrArg₂ (· + ·) (if_congr hb rfl rfl) (if_congr ha rfl rfl)
theorem owed_recv (d c : Dev nD) (e : Fin 8) : O₀ d (recvCell e c) () = if d = pt e c then N else 0 := by
  unfold O₀ O₁
  rw [Pi.add_apply, Finsupp.add_apply, Pi.add_apply, Finsupp.add_apply, tallyAt_ne_cell (recv_ne_bar e _ _), tallyAt_ne_cell (recv_ne_bar e _ _),
    Finsupp.zero_apply, Nat.add_zero, Nat.add_zero]
  unfold owe
  rw [Finset.sum_apply, Finsupp.finset_sum_apply, Finset.filter_true_of_mem (fun _ _ => Nat.zero_le _), Finset.sum_eq_single e]
  · rw [tallyAt_apply]
    have h : (recvCell e c = recvCell e (pt e d) ∧ () = ()) ↔ d = pt e c :=
      ⟨fun h => by rw [(recv_eq_iff.mp h.1).2, pt_pt], fun h => ⟨by rw [h, pt_pt], rfl⟩⟩
    exact if_congr h rfl rfl
  · intro e' _ he
    rw [tallyAt_ne_cell (fun h => he (recv_eq_iff.mp h).1.symm), Finsupp.zero_apply]
  · intro h; exact absurd (Finset.mem_univ _) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pb c) fun _ => 1, Finset.sum_ite_eq' Finset.univ (pa c) fun _ => 1, if_pos (Finset.mem_univ _), if_pos (Finset.mem_univ _)]
theorem launch_recv (c : Dev nD) (e : Fin 8) :
    tallyOn (recvCell e c) (launchCredit (Pipeline.owing O₀) 0 (recvCell e c)) = (tallyAt (recvCell e c) () N : CellTallies nD τ sig Unit) := by
  unfold tallyAt; refine congrArg _ (Finsupp.ext fun u => ?_); cases u
  rw [Pipeline.launchCredit_owing, Finsupp.single_eq_same, Finset.sum_congr rfl fun d _ => owed_recv d c e, Finset.sum_ite_eq' Finset.univ (pt e c) fun _ => N,
    if_pos (Finset.mem_univ _)]

def recvLoc (e : Fin 8) : SemLoc sig := .dma (recvQ e)
theorem recvLoc_injective : Function.Injective recvLoc := by decide

theorem creds (c : Dev nD) :
    (Pipeline.launchCred O₀ c : sProp 𝕄) ⊢ iprop(cred (tallyAt (barCell c) () 2) ∗ bigSep Finset.univ fun e => cred (tallyAt (recvCell e c) () N)) := by
  unfold Pipeline.launchCred
  rw [bigSep_univ_at _ (SemLoc.reg barS), launch_bar]
  refine sep_mono_right ?_
  have h : (bigSep Finset.univ fun e => (cred (tallyAt (recvCell e c) () N) : sProp 𝕄))
      = bigSep (Finset.univ.map ⟨recvLoc, recvLoc_injective⟩) fun sm : SemLoc sig =>
          cred (tallyOn ((c.tc : Thread nD τ), sm) (launchCredit (Pipeline.owing O₀) 0 ((c.tc : Thread nD τ), sm))) := by
    rw [bigSep_map]; exact bigSep_congr fun e _ => congrArg cred (launch_recv c e).symm
  rw [h]
  refine bigSep_subset fun l hl => ?_
  obtain ⟨e, -, rfl⟩ := Finset.mem_map.mp hl
  exact Finset.mem_erase.mpr ⟨fun h => by (unfold recvLoc at h; cases h), Finset.mem_univ _⟩

/-! ## The theorem's side conditions -/

theorem linear_ready (c : Dev nD) : iprop(linear c ∗ cred (tallyAt (barCell c) () 2) ∗ bigSep Finset.univ fun e => cred (tallyAt (recvCell e c) () N))
    ⊢ (iprop(readyB c ∗ bigSep Finset.univ fun e => ready c e) : sProp 𝕄) := by
  unfold linear payToks readyB ready
  rw [bigSep_option, bigSep_Xf]
  simp only [bigSep_sep']
  iintro ⟨⟨⟨HaB, HaS, HaR⟩, HtA, HtB, HtS, HtR⟩, HcB, HcR⟩
  isplitl [HaB HtA HtB HcB]
  · isplitl [HaB]; · iexact HaB
    isplitl [HtA]; · iexact HtA
    isplitl [HtB]; · iexact HtB
    iexact HcB
  isplitl [HaS]; · iexact HaS
  isplitl [HaR]; · iexact HaR
  isplitl [HtS]; · iexact HtS
  isplitl [HtR]; · iexact HtR
  iexact HcR

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start (XX m ρ) c ∗ emp) := by
  unfold G'
  iintro ⟨-, Hlev, Hcr, -, ⟨%K, Hsh, Hlin⟩⟩
  ihave Hc := (creds (F := F) c) $$ Hcr
  ihave Hr := (linear_ready (F := F) c) $$ [Hlin Hc]
  · isplitl [Hlin]; · iexact Hlin
    iexact Hc
  imodintro
  unfold start
  isplitl
  · isplitl [Hsh]
    · iexists K; iexact Hsh
    isplitl [Hlev]; · iexact Hlev
    iexact Hr
  · iempintro

theorem phi0_intro (c : Dev nD) :
    iprop(start (XX m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  exact Entails.refl _

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every array of the call holds what the library computes. -/
def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start (XX m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds what it held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

/-- The result's one block, the whole array, is what the body left staged. -/
theorem finalA_out (c : Dev nD) : (win0_9.blk (0 : Fin 1)).view.read (Elt F) (finalA m ρ c (9 : Fin 10)) = outAt (stIn m ρ) c := by
  unfold finalA
  rw [show cfg0.N = ((0 : Fin 1) : Fin cfg0.N).val + 1 from rfl, (dats m ρ 0 c).arrAt_succ (9 : Fin 10) (0 : Fin 1)]
  rw [show (cfg0.win (9 : Fin 10)).flush (0 : Fin 1) = true from by decide, if_pos rfl]
  exact View.read_write_univ _ _

/-- After a run every argument's array holds what it held. -/
theorem args_kept {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨(h c (0 : Fin 10)).trans (finalA_in m ρ c (0 : Fin 10) rfl),
    (h c (1 : Fin 10)).trans (finalA_in m ρ c (1 : Fin 10) rfl),
    (h c (2 : Fin 10)).trans (finalA_in m ρ c (2 : Fin 10) rfl),
    (h c (3 : Fin 10)).trans (finalA_in m ρ c (3 : Fin 10) rfl),
    (h c (4 : Fin 10)).trans (finalA_in m ρ c (4 : Fin 10) rfl),
    (h c (5 : Fin 10)).trans (finalA_in m ρ c (5 : Fin 10) rfl),
    (h c (6 : Fin 10)).trans (finalA_in m ρ c (6 : Fin 10) rfl),
    (h c (7 : Fin 10)).trans (finalA_in m ρ c (7 : Fin 10) rfl),
    (h c (8 : Fin 10)).trans (finalA_in m ρ c (8 : Fin 10) rfl)⟩

end Cert.KernelIdeal.Ring

end
-- ==== Proof.Val.Math.lean ====
module

public import Idealize.ShloMosaic.Lib.Pointwise
public import Idealize.ShloMosaic.Lib.IdealHost

/-! The block's mathematics over the extended reals: layer normalisation, one head's softmax row, and the gate
    `h · logistic h`, each in the kernel's spelling and in the reference's, with the equalities between the two. -/

@[expose] public section

noncomputable section

namespace Cert.Val

open Idealize.ShloMosaic
open scoped BigOperators

/-- An extended real that is a real number. -/
def IsReal (x : EReal) : Prop := ∃ r : ℝ, x = r

theorem IsReal.of_ne {x : EReal} (h1 : x ≠ ⊤) (h2 : x ≠ ⊥) : IsReal x := ⟨x.toReal, (EReal.coe_toReal h1 h2).symm⟩
theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r
theorem IsReal.zero : IsReal 0 := ⟨0, by simp⟩
theorem IsReal.one : IsReal 1 := ⟨1, by simp⟩
theorem IsReal.add {x y : EReal} (hx : IsReal x) (hy : IsReal y) : IsReal (x + y) := by
  obtain ⟨a, rfl⟩ := hx; obtain ⟨b, rfl⟩ := hy; exact ⟨a + b, by push_cast; rfl⟩
theorem IsReal.sub {x y : EReal} (hx : IsReal x) (hy : IsReal y) : IsReal (x - y) := by
  obtain ⟨a, rfl⟩ := hx; obtain ⟨b, rfl⟩ := hy; exact ⟨a - b, by push_cast; rfl⟩
theorem IsReal.mul {x y : EReal} (hx : IsReal x) (hy : IsReal y) : IsReal (x * y) := by
  obtain ⟨a, rfl⟩ := hx; obtain ⟨b, rfl⟩ := hy; exact ⟨a * b, by push_cast; rfl⟩
theorem IsReal.sum {ι : Type} (s : Finset ι) {f : ι → EReal} (h : ∀ i, IsReal (f i)) : IsReal (∑ i ∈ s, f i) := by
  classical
  induction s using Finset.induction_on with
  | empty => simpa using IsReal.zero
  | insert a s ha ih => rw [Finset.sum_insert ha]; exact (h a).add ih

/-! The literals. -/

theorem lit_512 : Ideal.ofBits .f32 0x44000000#32 = ((512 : ℝ) : EReal) := by
  simp [Ideal.ofBits, Ideal.ieee, -EReal.coe_mul]; norm_num
theorem lit_bot : Ideal.ofBits .f32 0xFF800000#32 = ⊥ := by
  simp [Ideal.ofBits, Ideal.ieee]
theorem lit_top : Ideal.ofBits .bf16 0x7F80#16 = ⊤ := by
  simp [Ideal.ofBits, Ideal.ieee]
theorem lit_eighth : IsReal (Ideal.ofBits .f32 0x3E000000#32) := by
  unfold IsReal; simp only [Ideal.ofBits, Ideal.ieee]; simp [-EReal.coe_mul]
theorem lit_eps16 : ∃ r : ℝ, 0 < r ∧ Ideal.ofBits .bf16 0x3728#16 = r := by
  refine ⟨_, ?_, by simp [Ideal.ofBits, Ideal.ieee, -EReal.coe_mul]; rfl⟩
  norm_num
theorem lit_eps32 : ∃ r : ℝ, 0 < r ∧ Ideal.ofBits .f32 0x3727C5AC#32 = r := by
  refine ⟨_, ?_, by simp [Ideal.ofBits, Ideal.ieee, -EReal.coe_mul]; rfl⟩
  norm_num

/-! Layer normalisation. -/

def mean (x : Fin 512 → EReal) : EReal := Ideal.div (∑ k, x k) (Ideal.ofBits .f32 0x44000000#32)
def var (x : Fin 512 → EReal) : EReal := Ideal.div (∑ k, (x k - mean x) * (x k - mean x)) (Ideal.ofBits .f32 0x44000000#32)

/-- The normalised row, scaled and shifted: with the reciprocal of the root (kernel). -/
def lnm (e : EReal) (x sc sh : Fin 512 → EReal) (j : Fin 512) : EReal :=
  (x j - mean x) * Ideal.rsqrt (var x + e) * (1 + sc j) + sh j

/-- The same with a quotient by the root (reference). -/
def lnq (e : EReal) (x sc sh : Fin 512 → EReal) (j : Fin 512) : EReal :=
  Ideal.div (x j - mean x) (Ideal.sqrt (var x + e)) * (1 + sc j) + sh j

theorem sq_nonneg' (x : EReal) : 0 ≤ x * x := by
  rcases le_total 0 x with h | h
  · exact mul_nonneg h h
  · have h' : 0 ≤ -x := by simpa using h
    simpa [neg_mul_neg] using mul_nonneg h' h'

theorem div_512 (x : EReal) : Ideal.div x (Ideal.ofBits .f32 0x44000000#32) = x * (((512 : ℝ)⁻¹ : ℝ) : EReal) := by
  rw [lit_512, Ideal.div, if_neg (by norm_num), ← EReal.coe_inv]

theorem var_nonneg (x : Fin 512 → EReal) : 0 ≤ var x := by
  unfold var
  rw [div_512]
  exact mul_nonneg (Finset.sum_nonneg fun k _ => sq_nonneg' _) (by norm_num)

theorem var_add_cases {v e : EReal} (hv : 0 ≤ v) (he : ∃ r : ℝ, 0 < r ∧ e = r) : v + e = ⊤ ∨ ∃ r : ℝ, 0 < r ∧ v + e = r := by
  obtain ⟨r, hr, rfl⟩ := he
  induction v with
  | bot => simp at hv
  | top => left; simp
  | coe a => right; exact ⟨a + r, by have : (0 : ℝ) ≤ a := by exact_mod_cast hv
                                     linarith, by push_cast; rfl⟩

theorem lnq_eq {e : EReal} (he : ∃ r : ℝ, 0 < r ∧ e = r) (x sc sh : Fin 512 → EReal) : lnq e x sc sh = lnm e x sc sh := by
  funext j
  unfold lnq lnm
  congr 2
  rcases var_add_cases (var_nonneg x) he with h | ⟨r, hr, h⟩
  · rw [h, Ideal.sqrt_top, Ideal.rsqrt_top, Ideal.div, if_neg (by simp), EReal.inv_top]
  · have h0 : Real.sqrt r ≠ 0 := (Real.sqrt_pos.mpr hr).ne'
    rw [h, Ideal.sqrt_coe, Ideal.rsqrt_coe, if_neg (by linarith), if_neg (by linarith), if_neg hr.ne', Ideal.div,
      if_neg (by exact_mod_cast h0), EReal.coe_inv]

/-- A normalised entry is a real number whatever the row holds: a row with an infinity has an infinite variance, and the
    reciprocal of its root is zero. -/
theorem lnm_real {e : EReal} (he : ∃ r : ℝ, 0 < r ∧ e = r) (x sc sh : Fin 512 → EReal) (j : Fin 512)
    (hsc : IsReal (sc j)) (hsh : IsReal (sh j)) : IsReal (lnm e x sc sh j) := by
  refine IsReal.add (IsReal.mul ?_ (IsReal.one.add hsc)) hsh
  by_cases hv : var x = ⊤
  · obtain ⟨r, hr, rfl⟩ := he
    rw [hv, EReal.top_add_coe, Ideal.rsqrt_top, mul_zero]
    exact IsReal.zero
  · have hS : (∑ k, (x k - mean x) * (x k - mean x)) ≠ ⊤ := by
      intro h
      apply hv
      unfold var
      rw [div_512, h, EReal.top_mul_coe_of_pos (by norm_num)]
    have hj : (x j - mean x) * (x j - mean x) ≠ ⊤ := fun h => hS (top_le_iff.mp (h ▸
      Finset.single_le_sum (f := fun k => (x k - mean x) * (x k - mean x)) (fun k _ => sq_nonneg' _) (Finset.mem_univ j)))
    refine IsReal.mul (IsReal.of_ne ?_ ?_) ?_
    · intro h; rw [h] at hj; exact hj (by simp)
    · intro h; rw [h] at hj; exact hj (by simp)
    · rcases var_add_cases (var_nonneg x) he with h | ⟨r, hr, h⟩
      · rw [h, Ideal.rsqrt_top]; exact IsReal.zero
      · rw [h, Ideal.rsqrt_coe, if_neg (by linarith), if_neg hr.ne']; exact ⟨_, rfl⟩

/-! One row of one head: the scores `s`, one column `v` of the values. -/

def rmax (s : Fin 256 → EReal) : EReal := Finset.univ.fold max (Ideal.ofBits .f32 0xFF800000#32) s

/-- The kernel's: the weights are normalised first. -/
def soft (s v : Fin 256 → EReal) : EReal :=
  ∑ j, Ideal.div (Ideal.exp (s j - rmax s)) (∑ k, Ideal.exp (s k - rmax s)) * v j

/-- The reference's: one step of the running softmax from the maximum `-∞`, the sum and the output zero. -/
def softq (s v : Fin 256 → EReal) : EReal :=
  Ideal.div (0 * Ideal.exp (⊥ - max ⊥ (rmax s)) + ∑ j, v j * Ideal.exp (s j - max ⊥ (rmax s)))
    (0 * Ideal.exp (⊥ - max ⊥ (rmax s)) + ∑ j, Ideal.exp (s j - max ⊥ (rmax s)))

theorem rmax_real {s : Fin 256 → EReal} (h : ∀ j, IsReal (s j)) : IsReal (rmax s) := by
  unfold rmax
  rw [lit_bot]
  refine IsReal.of_ne (ne_of_lt ((Finset.fold_max_lt (s := Finset.univ) (f := s) ⊤).mpr ⟨bot_lt_top, fun j _ => lt_top_iff_ne_top.mpr (h j).ne_top⟩))
    (ne_of_gt ((Finset.lt_fold_max (s := Finset.univ) (f := s) ⊥).mpr (.inr ⟨0, Finset.mem_univ _, bot_lt_iff_ne_bot.mpr (h 0).ne_bot⟩)))

theorem sum_mul_nonneg {ι : Type} (s : Finset ι) (f : ι → EReal) {c : EReal} (h0 : 0 ≤ c) (h1 : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

theorem softq_eq {s : Fin 256 → EReal} (h : ∀ j, IsReal (s j)) (v : Fin 256 → EReal) : softq s v = soft s v := by
  obtain ⟨m, hm⟩ := rmax_real h
  choose r hr using h
  have hp : ∀ j, Ideal.exp (s j - rmax s) = ((Real.exp (r j - m) : ℝ) : EReal) := fun j => by
    rw [hr, hm, ← EReal.coe_sub]; rfl
  have hl : (∑ j, Ideal.exp (s j - rmax s)) = ((∑ j, Real.exp (r j - m) : ℝ) : EReal) := by
    simp only [hp]
    exact (map_sum (⟨⟨Real.toEReal, EReal.coe_zero⟩, EReal.coe_add⟩ : ℝ →+ EReal) (fun j => Real.exp (r j - m)) Finset.univ).symm
  have hpos : 0 < ∑ j : Fin 256, Real.exp (r j - m) := Finset.sum_pos (fun j _ => Real.exp_pos _) ⟨0, Finset.mem_univ _⟩
  have hne : ((∑ j, Real.exp (r j - m) : ℝ) : EReal) ≠ 0 := by exact_mod_cast hpos.ne'
  unfold softq soft
  rw [max_eq_right bot_le, hl]
  simp only [zero_mul, zero_add, Ideal.div, if_neg hne]
  rw [← EReal.coe_inv, sum_mul_nonneg _ _ (by exact_mod_cast (inv_pos.mpr hpos).le) (EReal.coe_ne_top _)]
  refine Finset.sum_congr rfl fun j _ => ?_
  rw [mul_comm (v j), mul_assoc, mul_assoc, mul_comm (v j)]

/-! The gate. -/

def gate (h : EReal) : EReal := h * Ideal.logistic h

theorem gate_eq (h : EReal) : Ideal.div h (1 + Ideal.exp (-h)) = gate h := by
  unfold gate Ideal.logistic
  refine (Ideal.mul_one_div ?_).symm
  have h0 : 0 ≤ Ideal.exp (-h) := by
    induction h with
    | bot => simp
    | top => simp
    | coe a => rw [← EReal.coe_neg, Ideal.exp_coe]; exact_mod_cast (Real.exp_pos _).le
  intro e
  have h1 : (1 : EReal) ≤ 1 + Ideal.exp (-h) := le_add_of_nonneg_right h0
  rw [e] at h1
  exact absurd h1 (by simp)

end Cert.Val

end
-- ==== Proof.Val.Spec.lean ====
module

public import proofs.«01_k».proof.Proof.Val.Math

/-! The block on plain functions: projections, attention over any number of heads of width 64, the feed-forward over any
    number of hidden columns. One device's part is these at its own columns, the reference's whole is these at all columns,
    and the whole is the sum of the four parts. -/

@[expose] public section

noncomputable section

namespace Cert.Val

open Idealize.ShloMosaic
open scoped BigOperators

/-- Column `d` of the head column `n` belongs to. -/
def hcol {N : ℕ} (hN : 64 ∣ N) (n : Fin N) (d : Fin 64) : Fin N :=
  ⟨64 * (n.val / 64) + d.val, by obtain ⟨k, rfl⟩ := hN; have := n.isLt; have := d.isLt; omega⟩

def proj {N : ℕ} (x : Fin 256 → Fin 512 → EReal) (w : Fin 512 → Fin N → EReal) (r : Fin 256) (n : Fin N) : EReal := ∑ k, x r k * w k n

def score {N : ℕ} (hN : 64 ∣ N) (q k : Fin 256 → Fin N → EReal) (n : Fin N) (i j : Fin 256) : EReal :=
  (∑ d : Fin 64, q i (hcol hN n d) * k j (hcol hN n d)) * Ideal.ofBits .f32 0x3E000000#32

def att {N : ℕ} (hN : 64 ∣ N) (q k v : Fin 256 → Fin N → EReal) (i : Fin 256) (n : Fin N) : EReal :=
  soft (score hN q k n i) fun j => v j n

/-- The attention's output through the output projection, over the columns at hand. -/
def apart {N : ℕ} (hN : 64 ∣ N) (x : Fin 256 → Fin 512 → EReal) (wq wk wv : Fin 512 → Fin N → EReal) (wo : Fin N → Fin 512 → EReal)
    (r : Fin 256) (j : Fin 512) : EReal :=
  ∑ n, att hN (proj x wq) (proj x wk) (proj x wv) r n * wo n j

/-- The feed-forward, over the hidden columns at hand. -/
def fpart {N : ℕ} (y : Fin 256 → Fin 512 → EReal) (f1 : Fin 512 → Fin N → EReal) (f2 : Fin N → Fin 512 → EReal) (r : Fin 256) (j : Fin 512) : EReal :=
  ∑ n, gate (proj y f1 r n) * f2 n j

/-- Column `n` of block `c` among four. -/
def bcol {M N : ℕ} (h : 4 * M = N) (c : Fin 4) (n : Fin M) : Fin N :=
  ⟨c.val * M + n.val, by
    have hn := n.isLt
    calc c.val * M + n.val < (c.val + 1) * M := by rw [Nat.add_mul]; omega
      _ ≤ 4 * M := Nat.mul_le_mul_right _ (by omega)
      _ = N := h⟩

theorem sum_blocks {M N : ℕ} (h : 4 * M = N) (f : Fin N → EReal) : ∑ n, f n = ∑ c : Fin 4, ∑ n : Fin M, f (bcol h c n) :=
  Fin.sum_univ_tiles 4 M h f

theorem hcol_bcol (c : Fin 4) (n : Fin 256) (d : Fin 64) :
    hcol (N := 1024) (by norm_num) (bcol (M := 256) rfl c n) d = bcol rfl c (hcol (by norm_num) n d) := by
  refine Fin.ext ?_
  show 64 * ((c.val * 256 + n.val) / 64) + d.val = c.val * 256 + (64 * (n.val / 64) + d.val)
  omega

/-- The attention over all 1024 columns is the sum of the four devices' parts. -/
theorem apart_blocks (x : Fin 256 → Fin 512 → EReal) (wq wk wv : Fin 512 → Fin 1024 → EReal) (wo : Fin 1024 → Fin 512 → EReal) (r : Fin 256) (j : Fin 512) :
    apart (by norm_num) x wq wk wv wo r j = ∑ c : Fin 4, apart (N := 256) (by norm_num) x (fun k n => wq k (bcol rfl c n)) (fun k n => wk k (bcol rfl c n))
      (fun k n => wv k (bcol rfl c n)) (fun n j => wo (bcol rfl c n) j) r j := by
  unfold apart
  rw [sum_blocks (M := 256) rfl]
  refine Finset.sum_congr rfl fun c _ => Finset.sum_congr rfl fun n _ => ?_
  unfold att score
  simp only [hcol_bcol]
  rfl

/-- The feed-forward over all 2048 hidden columns likewise. -/
theorem fpart_blocks (y : Fin 256 → Fin 512 → EReal) (f1 : Fin 512 → Fin 2048 → EReal) (f2 : Fin 2048 → Fin 512 → EReal) (r : Fin 256) (j : Fin 512) :
    fpart y f1 f2 r j = ∑ c : Fin 4, fpart (N := 512) y (fun k n => f1 k (bcol rfl c n)) (fun n j => f2 (bcol rfl c n) j) r j := by
  unfold fpart
  rw [sum_blocks (M := 512) rfl]
  rfl

/-- One batch row of the block, from the residual `x`, the six rows of the modulation and the whole weights. -/
def x1 (x : Fin 256 → Fin 512 → EReal) (md : Fin 6 → Fin 512 → EReal) (wq wk wv : Fin 512 → Fin 1024 → EReal) (wo : Fin 1024 → Fin 512 → EReal)
    (r : Fin 256) (j : Fin 512) : EReal :=
  x r j + md 2 j * apart (by norm_num) (fun r => lnm (Ideal.ofBits .bf16 0x3728#16) (x r) (md 0) (md 1)) wq wk wv wo r j

def out (x1 : Fin 256 → Fin 512 → EReal) (md : Fin 6 → Fin 512 → EReal) (f1 : Fin 512 → Fin 2048 → EReal) (f2 : Fin 2048 → Fin 512 → EReal)
    (r : Fin 256) (j : Fin 512) : EReal :=
  x1 r j + md 5 j * fpart (fun r => lnm (Ideal.ofBits .f32 0x3727C5AC#32) (x1 r) (md 3) (md 4)) f1 f2 r j

/-- A sum over the four devices, by any one's two exchanges. -/
theorem exchange_sum (f : Fin 4 → EReal) (pa pb : Fin 4 → Fin 4) (ha : pa = ![3, 2, 1, 0]) (hb : pb = ![1, 0, 3, 2]) (d : Fin 4) :
    (f d + f (pa d)) + (f (pb d) + f (pa (pb d))) = ∑ c, f c := by
  subst ha hb; simp only [Fin.sum_univ_four]
  fin_cases d
  · show (f 0 + f 3) + (f 1 + f 2) = _; ac_rfl
  · show (f 1 + f 2) + (f 0 + f 3) = _; ac_rfl
  · show (f 2 + f 1) + (f 3 + f 0) = _; ac_rfl
  · show (f 3 + f 0) + (f 2 + f 1) = _; ac_rfl

end Cert.Val

end
-- ==== Proof.Val.Vec.lean ====
module

public import proofs.«01_k».proof.Proof.Val.Spec
public import proofs.«01_k».proof.Proof.KI.Contents

/-! The kernel's vector expressions read at an index: the two layer normalisations, one head, the products. Each is stated
    once and used for both batch rows and all heads. -/

@[expose] public section

set_option maxRecDepth 16384

noncomputable section

namespace Cert.Val

open Cert.KernelIdeal Cert.KernelIdeal.Gen Cert.KernelIdeal.Ring
open Idealize.ShloMosaic
open scoped BigOperators

/-- The layer normalisation of a bf16 row, as the kernel spells it. -/
def lnb (sc sh : FVec Ideal S1x512 .f32) (x : FVec Ideal S256x512 .bf16) : FVec Ideal S256x512 .f32 :=
  have m : FVec Ideal S256x1 .bf16 := truncf .bf16 (divf (shapeCast S256x1 (multiReduction .add [1] S256 (extf .f32 x bitsLt_bf16_f32) 0x00000000#32 reduces_S256x512_S256 (.inl rfl) rfl) shapeCasts_S256_S256x1)
    (broadcast S256x1 (Scalar.ofBits .f32 0x44000000#32))) bitsLt_bf16_f32
  have c : FVec Ideal S256x512 .bf16 := subf x (broadcastTo S256x512 m broadcasts_S256x1_S256x512)
  have v : FVec Ideal S256x1 .bf16 := truncf .bf16 (divf (shapeCast S256x1 (multiReduction .add [1] S256 (extf .f32 (mulf c c) bitsLt_bf16_f32) 0x00000000#32 reduces_S256x512_S256 (.inl rfl) rfl) shapeCasts_S256_S256x1)
    (broadcast S256x1 (Scalar.ofBits .f32 0x44000000#32))) bitsLt_bf16_f32
  have n : FVec Ideal S256x512 .bf16 := mulf c (broadcastTo S256x512 (rsqrt (addf v (broadcast S256x1 (Scalar.ofBits .bf16 0x3728#16)))) broadcasts_S256x1_S256x512)
  addf (mulf (extf .f32 n bitsLt_bf16_f32) (broadcastTo S256x512 (addf (broadcast S1x512 (Scalar.ofBits .f32 0x3F800000#32)) sc) broadcasts_S1x512_S256x512))
    (broadcastTo S256x512 sh broadcasts_S1x512_S256x512)

theorem lnb_apply (sc sh : FVec Ideal S1x512 .f32) (x : FVec Ideal S256x512 .bf16) (r : Fin 256) (j : Fin 512) :
    lnb sc sh x (ix2 r j) = lnm (Ideal.ofBits .bf16 0x3728#16) (fun k => x (ix2 r k)) (fun k => sc (ix2 0 k)) (fun k => sh (ix2 0 k)) j := by
  unfold lnm var mean
  pointwise [lnb, Ideal.ofBits_one_f32]

/-- The layer normalisation of an f32 row. -/
def lnf (sc sh : FVec Ideal S1x512 .f32) (x : FVec Ideal S256x512 .f32) : FVec Ideal S256x512 .f32 :=
  have m : FVec Ideal S256x1 .f32 := divf (shapeCast S256x1 (multiReduction .add [1] S256 x 0x00000000#32 reduces_S256x512_S256 (.inl rfl) rfl) shapeCasts_S256_S256x1)
    (broadcast S256x1 (Scalar.ofBits .f32 0x44000000#32))
  have c : FVec Ideal S256x512 .f32 := subf x (broadcastTo S256x512 m broadcasts_S256x1_S256x512)
  have v : FVec Ideal S256x1 .f32 := divf (shapeCast S256x1 (multiReduction .add [1] S256 (mulf c c) 0x00000000#32 reduces_S256x512_S256 (.inl rfl) rfl) shapeCasts_S256_S256x1)
    (broadcast S256x1 (Scalar.ofBits .f32 0x44000000#32))
  addf (mulf (mulf c (broadcastTo S256x512 (rsqrt (addf v (broadcast S256x1 (Scalar.ofBits .f32 0x3727C5AC#32)))) broadcasts_S256x1_S256x512))
      (broadcastTo S256x512 (addf (broadcast S1x512 (Scalar.ofBits .f32 0x3F800000#32)) sc) broadcasts_S1x512_S256x512))
    (broadcastTo S256x512 sh broadcasts_S1x512_S256x512)

theorem lnf_apply (sc sh : FVec Ideal S1x512 .f32) (x : FVec Ideal S256x512 .f32) (r : Fin 256) (j : Fin 512) :
    lnf sc sh x (ix2 r j) = lnm (Ideal.ofBits .f32 0x3727C5AC#32) (fun k => x (ix2 r k)) (fun k => sc (ix2 0 k)) (fun k => sh (ix2 0 k)) j := by
  unfold lnm var mean
  pointwise [lnf, Ideal.ofBits_one_f32]

/-- One head: scores, the normalised weights, the weighted values. -/
def core (q k v : FVec Ideal S256x64 .bf16) : FVec Ideal S256x64 .f32 :=
  have s : FVec Ideal S256x256 .f32 := mulf (matmul dot_S256x64_S256x64_S256x256_1_1_0_0_n_n none q k (constant S256x256 .f32 0x00000000#32)) (broadcast S256x256 (Scalar.ofBits .f32 0x3E000000#32))
  have p : FVec Ideal S256x256 .f32 := exp (subf s (broadcastTo S256x256 (shapeCast S256x1 (multiReduction .maximumf [1] S256 s 0xFF800000#32 reduces_S256x256_S256 (.inl rfl) rfl) shapeCasts_S256_S256x1) broadcasts_S256x1_S256x256))
  have l : FVec Ideal S256x256 .f32 := broadcastTo S256x256 (shapeCast S256x1 (multiReduction .add [1] S256 p 0x00000000#32 reduces_S256x256_S256 (.inl rfl) rfl) shapeCasts_S256_S256x1) broadcasts_S256x1_S256x256
  matmul dot_S256x256_S256x64_S256x64_1_0_0_1_n_n none (truncf .bf16 (divf p l) bitsLt_bf16_f32) v (constant S256x64 .f32 0x00000000#32)

theorem core_apply (q k v : FVec Ideal S256x64 .bf16) (i : Fin 256) (d : Fin 64) :
    core q k v (ix2 i d) = soft (fun j => (∑ e : Fin 64, q (ix2 i e) * k (ix2 j e)) * Ideal.ofBits .f32 0x3E000000#32) (fun j => v (ix2 j d)) := by
  unfold soft rmax
  pointwise [core]

/-- Four heads side by side, through the output projection. -/
def heads (q k v : FVec Ideal S256x256 .f32) (wo : FVec Ideal S256x512 .bf16) : FVec Ideal S1x256x512 .bf16 :=
  have h0 : FVec Ideal S256x64 .f32 := core (truncf .bf16 (extractStridedSlice S256x64 ![0, 0] q slices_S256x256_o0_0_S256x64) bitsLt_bf16_f32) (truncf .bf16 (extractStridedSlice S256x64 ![0, 0] k slices_S256x256_o0_0_S256x64) bitsLt_bf16_f32) (truncf .bf16 (extractStridedSlice S256x64 ![0, 0] v slices_S256x256_o0_0_S256x64) bitsLt_bf16_f32)
  have h1 : FVec Ideal S256x64 .f32 := core (truncf .bf16 (extractStridedSlice S256x64 ![0, 64] q slices_S256x256_o0_64_S256x64) bitsLt_bf16_f32) (truncf .bf16 (extractStridedSlice S256x64 ![0, 64] k slices_S256x256_o0_64_S256x64) bitsLt_bf16_f32) (truncf .bf16 (extractStridedSlice S256x64 ![0, 64] v slices_S256x256_o0_64_S256x64) bitsLt_bf16_f32)
  have h2 : FVec Ideal S256x64 .f32 := core (truncf .bf16 (extractStridedSlice S256x64 ![0, 128] q slices_S256x256_o0_128_S256x64) bitsLt_bf16_f32) (truncf .bf16 (extractStridedSlice S256x64 ![0, 128] k slices_S256x256_o0_128_S256x64) bitsLt_bf16_f32) (truncf .bf16 (extractStridedSlice S256x64 ![0, 128] v slices_S256x256_o0_128_S256x64) bitsLt_bf16_f32)
  have h3 : FVec Ideal S256x64 .f32 := core (truncf .bf16 (extractStridedSlice S256x64 ![0, 192] q slices_S256x256_o0_192_S256x64) bitsLt_bf16_f32) (truncf .bf16 (extractStridedSlice S256x64 ![0, 192] k slices_S256x256_o0_192_S256x64) bitsLt_bf16_f32) (truncf .bf16 (extractStridedSlice S256x64 ![0, 192] v slices_S256x256_o0_192_S256x64) bitsLt_bf16_f32)
  have o : FVec Ideal S256x256 .f32 := concatenate S256x256 1 [⟨S256x64, h0⟩, ⟨S256x64, h1⟩, ⟨S256x64, h2⟩, ⟨S256x64, h3⟩] concatenates_S256x64_S256x64_S256x64_S256x64_S256x256_d1
  shapeCast S1x256x512 (truncf .bf16 (matmul dot_S256x256_S256x512_S256x512_1_0_0_1_n_n none (truncf .bf16 o bitsLt_bf16_f32) wo (constant S256x512 .f32 0x00000000#32)) bitsLt_bf16_f32) shapeCasts_S256x512_S1x256x512

theorem head_at (q k v : FVec Ideal S256x256 .f32) (r n : Fin 256) (a : Fin 64 → Fin 256) (c : Fin 256) (ha : ∀ d, (a d).val = 64 * (n.val / 64) + d.val) (hc : c.val = n.val) :
    soft (fun j => (∑ e, q (ix2 r (a e)) * k (ix2 j (a e))) * Ideal.ofBits .f32 0x3E000000#32) (fun j => v (ix2 j c))
      = att (N := 256) (by norm_num) (fun r n => q (ix2 r n)) (fun r n => k (ix2 r n)) (fun r n => v (ix2 r n)) r n := by
  obtain rfl : c = n := Fin.ext hc
  obtain rfl : a = hcol (by norm_num) c := funext fun d => Fin.ext (ha d)
  rfl

theorem heads_apply (q k v : FVec Ideal S256x256 .f32) (wo : FVec Ideal S256x512 .bf16) (r : Fin 256) (j : Fin 512) :
    heads q k v wo (ix3 0 r j) = ∑ n, att (N := 256) (by norm_num) (fun r n => q (ix2 r n)) (fun r n => k (ix2 r n)) (fun r n => v (ix2 r n)) r n * wo (ix2 n j) := by
  pointwise [heads, core_apply]
  refine Finset.sum_congr rfl fun n _ => ?_
  congr 1
  have hn := n.isLt
  by_cases h0 : n.val < 64
  · rw [dif_pos h0]
    exact head_at q k v r n _ _ (fun d => by show d.val = _; omega) rfl
  rw [dif_neg h0]
  by_cases h1 : n.val - 64 < 64
  · rw [dif_pos h1]
    exact head_at q k v r n _ _ (fun d => by show 64 + d.val = _; omega) (by show 64 + (n.val - 64) = _; omega)
  rw [dif_neg h1]
  by_cases h2 : n.val - 64 - 64 < 64
  · rw [dif_pos h2]
    exact head_at q k v r n _ _ (fun d => by show 128 + d.val = _; omega) (by show 128 + (n.val - 64 - 64) = _; omega)
  rw [dif_neg h2]
  exact head_at q k v r n _ _ (fun d => by show 192 + d.val = _; omega) (by show 192 + (n.val - 64 - 64 - 64) = _; omega)

/-- The normalised row through one projection. -/
def prj (sc sh : FVec Ideal S1x512 .f32) (x : FVec Ideal S256x512 .bf16) (w : FVec Ideal S512x256 .bf16) : FVec Ideal S256x256 .f32 :=
  matmul dot_S256x512_S512x256_S256x256_1_0_0_1_n_n none (truncf .bf16 (lnb sc sh x) bitsLt_bf16_f32) w (constant S256x256 .f32 0x00000000#32)

theorem prj_apply (sc sh : FVec Ideal S1x512 .f32) (x : FVec Ideal S256x512 .bf16) (w : FVec Ideal S512x256 .bf16) (r n : Fin 256) :
    prj sc sh x w (ix2 r n) = proj (fun r => lnm (Ideal.ofBits .bf16 0x3728#16) (fun k => x (ix2 r k)) (fun k => sc (ix2 0 k)) (fun k => sh (ix2 0 k))) (fun k n => w (ix2 k n)) r n := by
  unfold proj
  pointwise [prj, lnb_apply]

/-- The feed-forward of a normalised row, cast to bf16. -/
def ffv (y : FVec Ideal S256x512 .f32) (f1 f2 : FVec Ideal S512x512 .bf16) : FVec Ideal S1x256x512 .bf16 :=
  have h : FVec Ideal S256x512 .f32 := matmul dot_S256x512_S512x512_S256x512_1_0_0_1_n_n none (truncf .bf16 y bitsLt_bf16_f32) f1 (constant S256x512 .f32 0x00000000#32)
  shapeCast S1x256x512 (truncf .bf16 (matmul dot_S256x512_S512x512_S256x512_1_0_0_1_n_n none (truncf .bf16 (mulf h (logistic h)) bitsLt_bf16_f32) f2 (constant S256x512 .f32 0x00000000#32)) bitsLt_bf16_f32) shapeCasts_S256x512_S1x256x512

theorem ffv_apply (y : FVec Ideal S256x512 .f32) (f1 f2 : FVec Ideal S512x512 .bf16) (r : Fin 256) (j : Fin 512) :
    ffv y f1 f2 (ix3 0 r j) = fpart (fun r k => y (ix2 r k)) (fun k n => f1 (ix2 k n)) (fun n j => f2 (ix2 n j)) r j := by
  unfold fpart proj gate
  pointwise [ffv]

/-! A device's staged inputs, as plain functions. -/

/-- Row `c` of the six the modulation is cut in, of batch row `b`. -/
def mrow (t : Fin 2 → Fin 128 → EReal) (wm : Fin 128 → Fin 3072 → EReal) (b : Fin 2) (c : Fin 6) (j : Fin 512) : EReal :=
  ∑ e, t b e * wm e ⟨512 * c.val + j.val, by omega⟩

variable (i : Ins Ideal)

theorem mod_slice (b : Fin 2) (c : Fin 6) (h : S2x3072.Slices ![b.val, 512 * c.val] S1x512) (j : Fin 512) :
    extractStridedSlice S1x512 ![b.val, 512 * c.val] i.mod h (ix2 0 j) = mrow (fun b e => i.t (ix2 b e)) (fun e k => i.wm (ix2 e k)) b c j := by
  unfold mrow
  pointwise [Ins.mod, k0_pay2]

end Cert.Val

end
-- ==== Proof.Val.Kernel.lean ====
module

public import proofs.«01_k».proof.Proof.Val.Vec

/-! What each device leaves staged, from the four devices' staged inputs, is the block of the whole arrays they are cut from. -/

@[expose] public section

set_option maxRecDepth 16384

noncomputable section

namespace Cert.Val

open Cert.KernelIdeal Cert.KernelIdeal.Gen Cert.KernelIdeal.Ring
open Idealize.ShloMosaic
open scoped BigOperators

variable (i : Ins Ideal)

/-- The modulation's rows of batch row `b`, and the batch row itself. -/
def mrows (b : Fin 2) : Fin 6 → Fin 512 → EReal := mrow (fun b e => i.t (ix2 b e)) (fun e k => i.wm (ix2 e k)) b
def xrow (b : Fin 2) (r : Fin 256) (k : Fin 512) : EReal := i.x (ix3 b r k)

theorem x0_apply (r : Fin 256) (k : Fin 512) : i.x0 (ix2 r k) = xrow i 0 r k := by
  unfold xrow
  pointwise [Ins.x0, k0_pay7]
  refine congrArg i.x (funext fun a => ?_)
  fin_cases a
  · rfl
  · exact Fin.ext (by show 0 + 1 * r.val = r.val; omega)
  · exact Fin.ext (by show 0 + 1 * k.val = k.val; omega)

theorem x1_apply (r : Fin 256) (k : Fin 512) : i.x1 (ix2 r k) = xrow i 1 r k := by
  unfold xrow
  pointwise [Ins.x1, k0_pay8]
  refine congrArg i.x (funext fun a => ?_)
  fin_cases a
  · rfl
  · exact Fin.ext (by show 0 + 1 * r.val = r.val; omega)
  · exact Fin.ext (by show 0 + 1 * k.val = k.val; omega)

/-- A device's part of the attention's output in batch row `b`. -/
def apt (b : Fin 2) : Fin 256 → Fin 512 → EReal :=
  apart (N := 256) (by norm_num) (fun r => lnm (Ideal.ofBits .bf16 0x3728#16) (xrow i b r) (mrows i b 0) (mrows i b 1))
    (fun k n => i.wq (ix2 k n)) (fun k n => i.wk (ix2 k n)) (fun k n => i.wv (ix2 k n)) (fun n j => i.wo (ix2 n j))

theorem heads_prj (b : Fin 2) (x : FVec Ideal S256x512 .bf16) (hx : ∀ r k, x (ix2 r k) = xrow i b r k)
    (h0 : S2x3072.Slices ![b.val, 512 * (0 : Fin 6).val] S1x512) (h1 : S2x3072.Slices ![b.val, 512 * (1 : Fin 6).val] S1x512) (r : Fin 256) (j : Fin 512) :
    heads (prj (extractStridedSlice S1x512 _ i.mod h0) (extractStridedSlice S1x512 _ i.mod h1) x (k0_pay3 i.wq))
      (prj (extractStridedSlice S1x512 _ i.mod h0) (extractStridedSlice S1x512 _ i.mod h1) x (k0_pay4 i.wk))
      (prj (extractStridedSlice S1x512 _ i.mod h0) (extractStridedSlice S1x512 _ i.mod h1) x (k0_pay5 i.wv)) (k0_pay6 i.wo) (ix3 0 r j) = apt i b r j := by
  rw [heads_apply]
  simp only [prj_apply, mod_slice, hx, k0_pay3, k0_pay4, k0_pay5, k0_pay6, shapeCast_self]
  rfl

theorem a0_apply (r : Fin 256) (j : Fin 512) : i.a0 (ix3 0 r j) = apt i 0 r j :=
  heads_prj i 0 i.x0 (x0_apply i) slices_S2x3072_o0_0_S1x512 slices_S2x3072_o0_512_S1x512 r j

theorem a1_apply (r : Fin 256) (j : Fin 512) : i.a1 (ix3 0 r j) = apt i 1 r j :=
  heads_prj i 1 i.x1 (x1_apply i) slices_S2x3072_o1_0_S1x512 slices_S2x3072_o1_512_S1x512 r j

/-- The residual after the attention, from the two half sums. -/
theorem r0_apply (s s' : Blk Ideal) (r : Fin 256) (j : Fin 512) :
    i.r0 s s' (ix2 r j) = xrow i 0 r j + mrows i 0 2 j * (s (ix3 0 r j) + s' (ix3 0 r j)) := by
  have h := mod_slice i 0 2 slices_S2x3072_o0_1024_S1x512 j
  rw [show mrows i 0 2 j = _ from h.symm, ← x0_apply]
  pointwise [Ins.r0, k0_pay36, k0_pay35]

theorem r1_apply (s s' : Blk Ideal) (r : Fin 256) (j : Fin 512) :
    i.r1 s s' (ix2 r j) = xrow i 1 r j + mrows i 1 2 j * (s (ix3 0 r j) + s' (ix3 0 r j)) := by
  have h := mod_slice i 1 2 slices_S2x3072_o1_1024_S1x512 j
  rw [show mrows i 1 2 j = _ from h.symm, ← x1_apply]
  pointwise [Ins.r1, k0_pay40]

/-- A device's part of the feed-forward in batch row `b`, of the residual `y`. -/
def fpt (b : Fin 2) (y : Fin 256 → Fin 512 → EReal) : Fin 256 → Fin 512 → EReal :=
  fpart (N := 512) (fun r => lnm (Ideal.ofBits .f32 0x3727C5AC#32) (y r) (mrows i b 3) (mrows i b 4)) (fun k n => i.f1 (ix2 k n)) (fun n j => i.f2 (ix2 n j))

theorem ffv_lnf (b : Fin 2) (y : FVec Ideal S256x512 .f32) (h3 : S2x3072.Slices ![b.val, 512 * (3 : Fin 6).val] S1x512)
    (h4 : S2x3072.Slices ![b.val, 512 * (4 : Fin 6).val] S1x512) (r : Fin 256) (j : Fin 512) :
    ffv (lnf (extractStridedSlice S1x512 _ i.mod h3) (extractStridedSlice S1x512 _ i.mod h4) y) (shapeCast S512x512 i.f1 shapeCasts_S512x512_S512x512)
      (shapeCast S512x512 i.f2 shapeCasts_S512x512_S512x512) (ix3 0 r j) = fpt i b (fun r k => y (ix2 r k)) r j := by
  rw [ffv_apply]
  have e (f : FVec Ideal S512x512 .bf16) (a c : Fin 512) : shapeCast S512x512 f shapeCasts_S512x512_S512x512 (ix2 a c) = f (ix2 a c) := by pointwise
  simp only [lnf_apply, mod_slice, e]
  rfl

theorem g0_apply (s s' : Blk Ideal) (r : Fin 256) (j : Fin 512) : i.g0 s s' (ix3 0 r j) = fpt i 0 (fun r k => i.r0 s s' (ix2 r k)) r j :=
  ffv_lnf i 0 (i.r0 s s') slices_S2x3072_o0_1536_S1x512 slices_S2x3072_o0_2048_S1x512 r j

theorem g1_apply (s s' : Blk Ideal) (r : Fin 256) (j : Fin 512) : i.g1 s s' (ix3 0 r j) = fpt i 1 (fun r k => i.r1 s s' (ix2 r k)) r j :=
  ffv_lnf i 1 (i.r1 s s') slices_S2x3072_o1_1536_S1x512 slices_S2x3072_o1_2048_S1x512 r j

/-! The four devices together. -/

/-- The whole arrays. -/
structure Whole where
  x : Fin 2 → Fin 256 → Fin 512 → EReal
  wq : Fin 512 → Fin 1024 → EReal
  wk : Fin 512 → Fin 1024 → EReal
  wv : Fin 512 → Fin 1024 → EReal
  wo : Fin 1024 → Fin 512 → EReal
  t : Fin 2 → Fin 128 → EReal
  wm : Fin 128 → Fin 3072 → EReal
  f1 : Fin 512 → Fin 2048 → EReal
  f2 : Fin 2048 → Fin 512 → EReal

/-- The residual after the attention, and the block's result, of batch row `b`. -/
def Whole.res (w : Whole) (b : Fin 2) : Fin 256 → Fin 512 → EReal := x1 (w.x b) (mrow w.t w.wm b) w.wq w.wk w.wv w.wo
def Whole.result (w : Whole) (b : Fin 2) : Fin 256 → Fin 512 → EReal := out (w.res b) (mrow w.t w.wm b) w.f1 w.f2

/-- Device `c`'s staged inputs are its part of the whole. -/
structure Part (w : Whole) (c : Fin 4) (i : Ins Ideal) : Prop where
  x : ∀ b r k, i.x (ix3 b r k) = w.x b r k
  wq : ∀ k n, i.wq (ix2 k n) = w.wq k (bcol rfl c n)
  wk : ∀ k n, i.wk (ix2 k n) = w.wk k (bcol rfl c n)
  wv : ∀ k n, i.wv (ix2 k n) = w.wv k (bcol rfl c n)
  wo : ∀ n j, i.wo (ix2 n j) = w.wo (bcol rfl c n) j
  t : ∀ b e, i.t (ix2 b e) = w.t b e
  wm : ∀ e k, i.wm (ix2 e k) = w.wm e k
  f1 : ∀ k n, i.f1 (ix2 k n) = w.f1 k (bcol rfl c n)
  f2 : ∀ n j, i.f2 (ix2 n j) = w.f2 (bcol rfl c n) j

variable {w : Whole} {I : Dev nD → Ins Ideal}

theorem Part.xrow {c : Fin 4} {i : Ins Ideal} (h : Part w c i) (b : Fin 2) : Val.xrow i b = w.x b := by
  funext r k; exact h.x b r k
theorem Part.mrows {c : Fin 4} {i : Ins Ideal} (h : Part w c i) (b : Fin 2) : Val.mrows i b = mrow w.t w.wm b := by
  unfold Val.mrows; congr 1
  · funext b e; exact h.t b e
  · funext e k; exact h.wm e k

theorem sum_apt (H : ∀ c : Fin 4, Part w c (I c)) (b : Fin 2) (r : Fin 256) (j : Fin 512) : ∑ c : Fin 4, apt (I c) b r j
    = apart (by norm_num) (fun r => lnm (Ideal.ofBits .bf16 0x3728#16) (w.x b r) (mrow w.t w.wm b 0) (mrow w.t w.wm b 1)) w.wq w.wk w.wv w.wo r j := by
  rw [apart_blocks]
  refine Finset.sum_congr rfl fun c _ => ?_
  unfold apt
  simp only [(H c).xrow, (H c).mrows, (H c).wq, (H c).wk, (H c).wv, (H c).wo]

theorem sum_fpt (H : ∀ c : Fin 4, Part w c (I c)) (b : Fin 2) (y : Fin 256 → Fin 512 → EReal) (r : Fin 256) (j : Fin 512) : ∑ c : Fin 4, fpt (I c) b y r j
    = fpart (fun r => lnm (Ideal.ofBits .f32 0x3727C5AC#32) (y r) (mrow w.t w.wm b 3) (mrow w.t w.wm b 4)) w.f1 w.f2 r j := by
  rw [fpart_blocks]
  refine Finset.sum_congr rfl fun c _ => ?_
  unfold fpt
  simp only [(H c).mrows, (H c).f1, (H c).f2]

theorem pa_eq : (pa : Fin 4 → Fin 4) = ![3, 2, 1, 0] := by decide
theorem pb_eq : (pb : Fin 4 → Fin 4) = ![1, 0, 3, 2] := rfl

theorem B0_apply (d : Dev nD) (r : Fin 256) (j : Fin 512) : B0 I d (ix3 0 r j) = A0 I d (ix3 0 r j) + A0 I (pa d) (ix3 0 r j) := by pointwise [B0, k0_pay32]
theorem B1_apply (d : Dev nD) (r : Fin 256) (j : Fin 512) : B1 I d (ix3 0 r j) = A1 I d (ix3 0 r j) + A1 I (pa d) (ix3 0 r j) := by pointwise [B1, k0_pay33, k0_pay34]
theorem D0_apply (d : Dev nD) (r : Fin 256) (j : Fin 512) : D0 I d (ix3 0 r j) = C0 I d (ix3 0 r j) + C0 I (pa d) (ix3 0 r j) := by pointwise [D0, k0_pay44]
theorem D1_apply (d : Dev nD) (r : Fin 256) (j : Fin 512) : D1 I d (ix3 0 r j) = C1 I d (ix3 0 r j) + C1 I (pa d) (ix3 0 r j) := by pointwise [D1, k0_pay45]

/-- Every device's residual is the whole block's. -/
theorem res0 (H : ∀ c : Fin 4, Part w c (I c)) (d : Dev nD) : (fun r k => (I d).r0 (B0 I d) (B0 I (pb d)) (ix2 r k)) = w.res 0 := by
  funext r j
  rw [r0_apply, B0_apply, B0_apply, (H d).xrow, (H d).mrows]
  unfold Whole.res x1
  rw [← sum_apt H, ← exchange_sum (fun c => apt (I c) 0 r j) pa pb pa_eq pb_eq d]
  simp only [A0, a0_apply]

theorem res1 (H : ∀ c : Fin 4, Part w c (I c)) (d : Dev nD) : (fun r k => (I d).r1 (B1 I d) (B1 I (pb d)) (ix2 r k)) = w.res 1 := by
  funext r j
  rw [r1_apply, B1_apply, B1_apply, (H d).xrow, (H d).mrows]
  unfold Whole.res x1
  rw [← sum_apt H, ← exchange_sum (fun c => apt (I c) 1 r j) pa pb pa_eq pb_eq d]
  simp only [A1, a1_apply]

theorem E0_apply (H : ∀ c : Fin 4, Part w c (I c)) (d : Dev nD) (r : Fin 256) (j : Fin 512) : E0 I d (ix3 0 r j) = w.result 0 r j := by
  have h := mod_slice (I d) 0 5 slices_S2x3072_o0_2560_S1x512 j
  have e : E0 I d (ix3 0 r j) = (I d).r0 (B0 I d) (B0 I (pb d)) (ix2 r j) + mrows (I d) 0 5 j * (D0 I d (ix3 0 r j) + D0 I (pb d) (ix3 0 r j)) := by
    rw [show mrows (I d) 0 5 j = _ from h.symm]
    pointwise [E0, k0_pay46, k0_pay47]
  rw [e, congrFun (congrFun (res0 H d) r) j, D0_apply, D0_apply, (H d).mrows]
  unfold Whole.result out
  rw [← sum_fpt H, ← exchange_sum (fun c => fpt (I c) 0 (w.res 0) r j) pa pb pa_eq pb_eq d]
  simp only [C0, g0_apply, res0 H]

theorem E1_apply (H : ∀ c : Fin 4, Part w c (I c)) (d : Dev nD) (r : Fin 256) (j : Fin 512) : E1 I d (ix3 0 r j) = w.result 1 r j := by
  have h := mod_slice (I d) 1 5 slices_S2x3072_o1_2560_S1x512 j
  have e : E1 I d (ix3 0 r j) = (I d).r1 (B1 I d) (B1 I (pb d)) (ix2 r j) + mrows (I d) 1 5 j * (D1 I d (ix3 0 r j) + D1 I (pb d) (ix3 0 r j)) := by
    rw [show mrows (I d) 1 5 j = _ from h.symm]
    pointwise [E1, k0_pay48, k0_pay1]
  rw [e, congrFun (congrFun (res1 H d) r) j, D1_apply, D1_apply, (H d).mrows]
  unfold Whole.result out
  rw [← sum_fpt H, ← exchange_sum (fun c => fpt (I c) 1 (w.res 1) r j) pa pb pa_eq pb_eq d]
  simp only [C1, g1_apply, res1 H]

/-- What each device leaves staged is the whole block's result. -/
theorem outAt_apply (H : ∀ c : Fin 4, Part w c (I c)) (d : Dev nD) (b : Fin 2) (r : Fin 256) (j : Fin 512) : outAt I d (ix3 b r j) = w.result b r j := by
  have hr : inRow (ix3 b r j) = ix3 0 r j := by funext a; fin_cases a <;> rfl
  unfold outAt
  rw [hr, E0_apply H, E1_apply H]
  fin_cases b
  · exact if_pos rfl
  · exact if_neg Nat.one_ne_zero

end Cert.Val

end
-- ==== Proof.Val.Ref.lean ====
module

public import proofs.«01_k».proof.Proof.Gen.ReferenceIdeal.Run
public import proofs.«01_k».proof.Proof.Val.Kernel
public import Idealize.ShloMosaic.Lib.Tactic.CleanTypes

/-! The reference's result, read index by index. -/

@[expose] public section

set_option maxRecDepth 16384

noncomputable section

namespace Cert.Val

open Cert.ReferenceIdeal Cert.ReferenceIdeal.Gen Cert.ReferenceIdeal.Value
open Idealize.ShloMosaic Idealize.ShloMosaic.TcCoe Idealize.ShloMosaic.StableHlo
open scoped BigOperators

variable (V : Valuation τ sig (Elt Ideal))

def ax : FVec Ideal S2x256x512 .bf16 := V (Proc.devRef .tc main_arg0)
def awq : FVec Ideal S512x1024 .bf16 := V (Proc.devRef .tc main_arg1)
def awk : FVec Ideal S512x1024 .bf16 := V (Proc.devRef .tc main_arg2)
def awv : FVec Ideal S512x1024 .bf16 := V (Proc.devRef .tc main_arg3)
def awo : FVec Ideal S1024x512 .bf16 := V (Proc.devRef .tc main_arg4)
def at_ : FVec Ideal S2x128 .bf16 := V (Proc.devRef .tc main_arg5)
def awm : FVec Ideal S128x3072 .bf16 := V (Proc.devRef .tc main_arg6)
def af1 : FVec Ideal S512x2048 .bf16 := V (Proc.devRef .tc main_arg7)
def af2 : FVec Ideal S2048x512 .bf16 := V (Proc.devRef .tc main_arg8)

/-- The whole arrays the reference is given. -/
def whole : Whole where
  x b r k := ax V (ix3 b r k)
  wq k n := awq V (ix2 k n)
  wk k n := awk V (ix2 k n)
  wv k n := awv V (ix2 k n)
  wo n j := awo V (ix2 n j)
  t b e := at_ V (ix2 b e)
  wm e k := awm V (ix2 e k)
  f1 k n := af1 V (ix2 k n)
  f2 n j := af2 V (ix2 n j)

abbrev md (b : Fin 2) : Fin 6 → Fin 512 → EReal := mrow (whole V).t (whole V).wm b

theorem v1_apply (b : Fin 2) (c : Fin 6) (j : Fin 512) (n : Fin 3072) (h : n.val = 512 * c.val + j.val) : res_main_v1 V (ix2 b n) = md V b c j := by
  have e : n = ⟨512 * c.val + j.val, h ▸ n.isLt⟩ := Fin.ext h
  rw [e]
  unfold md mrow
  pointwise [res_main_v1]
  rfl

theorem lit_512_pos : (0 : EReal) < Ideal.ofBits .f32 0x44000000#32 := by rw [lit_512]; exact_mod_cast (by norm_num : (0 : ℝ) < 512)

theorem sitofp_zero : (FloatOps.sitofp (F := Ideal) .f32 (0#32) : EReal) = 0 := by
  show (((0#32).toInt : ℝ) : EReal) = 0
  simp

theorem n9 (i : S_.Idx) : res_main_call0_v9 V i = Ideal.ofBits .f32 0x44000000#32 := by
  pointwise [res_main_call0_v9]
  rw [sitofp_zero, sub_zero]

theorem n8 (i : S_.Idx) : res_main_call1_v8 V i = Ideal.ofBits .f32 0x44000000#32 := by
  pointwise [res_main_call1_v8]
  rw [sitofp_zero, sub_zero]

theorem v29_apply (b : Fin 2) (r : Fin 256) (k : Fin 512) : res_main_v29 V (ix3 b r k)
    = lnm (Ideal.ofBits .bf16 0x3728#16) ((whole V).x b r) (md V b 0) (md V b 1) k := by
  rw [← lnq_eq lit_eps16]
  unfold lnq var mean
  pointwise [res_main_v29, res_main_call0_v6, res_main_call0_v0, n9]
  rw [if_pos lit_512_pos, v1_apply V b 0 k _ (by simp), v1_apply V b 1 k _ (by simp)]
  rfl

/-- The normalised rows. -/
def xn (b : Fin 2) (r : Fin 256) : Fin 512 → EReal := lnm (Ideal.ofBits .bf16 0x3728#16) ((whole V).x b r) (md V b 0) (md V b 1)

/-- A head's scores. -/
def sc (b : Fin 2) (h : Fin 16) (i j : Fin 256) : EReal := res_main_v46 V (ix4 b h i j)

theorem sc_eq (b : Fin 2) (h : Fin 16) (i : Fin 256) (n : Fin 1024) (hn : h.val = n.val / 64) :
    sc V b h i = score (by norm_num) (proj (xn V b) (whole V).wq) (proj (xn V b) (whole V).wk) n i := by
  funext j
  unfold sc score proj hcol xn
  pointwise [res_main_v46, v29_apply]
  simp only [hn, mul_comm _ 64]
  rfl

theorem v49_apply (b : Fin 2) (h : Fin 16) (i : Fin 256) : res_main_v49 V (ix4 b h i 0) = max ⊥ (rmax (sc V b h i)) := by
  unfold rmax sc res_main_v49 res_main_v40
  clean_types
  pointwise
  rw [lit_bot]

theorem v51_apply (b : Fin 2) (h : Fin 16) (i : Fin 256) : res_main_v51 V (ix4 b h i 0) = Ideal.exp (⊥ - max ⊥ (rmax (sc V b h i))) := by
  pointwise [res_main_v51, res_main_v40, v49_apply]
  rw [lit_bot]

theorem v54_apply (b : Fin 2) (h : Fin 16) (i j : Fin 256) : res_main_v54 V (ix4 b h i j) = Ideal.exp (sc V b h i j - max ⊥ (rmax (sc V b h i))) := by
  unfold sc
  pointwise [res_main_v54, v49_apply]
  rfl

end Cert.Val

end
-- ==== Proof.Val.Result.lean ====
module

public import proofs.«01_k».proof.Proof.Val.Ref

/-! The reference's result is the block of the whole arrays, when the scores are real numbers. -/

@[expose] public section

set_option maxRecDepth 16384

noncomputable section

namespace Cert.Val

open Cert.ReferenceIdeal Cert.ReferenceIdeal.Gen Cert.ReferenceIdeal.Value
open Idealize.ShloMosaic Idealize.ShloMosaic.TcCoe Idealize.ShloMosaic.StableHlo
open scoped BigOperators

variable (V : Valuation τ sig (Elt Ideal))

/-- One step of the softmax, over the head that column `n` belongs to. -/
theorem v75_soft (b : Fin 2) (r : Fin 256) (j : Fin 512) : res_main_v75 V (ix3 b r j) = (whole V).x b r j + md V b 2 j
    * ∑ n : Fin 1024, softq (sc V b ⟨n.val / 64, by omega⟩ r) (fun i => proj (xn V b) (whole V).wv i n) * (whole V).wo n j := by
  unfold softq proj xn
  pointwise [res_main_v75, v51_apply, v54_apply, v29_apply]
  rw [v1_apply V b 2 j _ (by simp)]
  rfl

/-- The hidden columns before the gate. -/
def hid (b : Fin 2) (r : Fin 256) (n : Fin 2048) : EReal := res_main_v98 V (ix3 b r n)
def res (b : Fin 2) (r : Fin 256) (j : Fin 512) : EReal := res_main_v75 V (ix3 b r j)

theorem hid_eq (b : Fin 2) (r : Fin 256) (n : Fin 2048) : hid V b r n
    = proj (fun r => lnm (Ideal.ofBits .f32 0x3727C5AC#32) (res V b r) (md V b 3) (md V b 4)) (whole V).f1 r n := by
  unfold hid proj
  simp only [← lnq_eq lit_eps32]
  unfold lnq var mean res
  pointwise [res_main_v98, res_main_call1_v5, n8]
  refine Finset.sum_congr rfl fun k _ => ?_
  rw [if_pos lit_512_pos, v1_apply V b 3 k _ (by simp), v1_apply V b 4 k _ (by simp)]
  rfl

/-- The reference's result. -/
def refOut : FVec Ideal S2x256x512 .f32 :=
  addf (res_main_v75 V) (mulf (broadcastInDim S2x256x512 ![0, 1, 2] bcast_S2x1x512_S2x256x512_0_1_2 (extf .f32 (broadcastInDim S2x1x512 ![0, 2] bcast_S2x512_S2x1x512_0_2
      (extractStridedSlice S2x512 ![0, 2560] (res_main_v1 V) slices_S2x3072_S2x512_0_2560)) bitsLt_bf16_f32))
    (Host.dotGeneral dot_S2x256x2048_S2048x512_S2x256x512_2_0_01_1_n_n none
      (Host.divf (res_main_v98 V) (addf (broadcastInDim S2x256x2048 ![] bcast_S_S2x256x2048 (constant S_ .f32 0x3F800000#32)) (Host.exp (Host.negf (res_main_v98 V)))))
      (af2 V)))

theorem refOut_eq (b : Fin 2) (r : Fin 256) (j : Fin 512) : refOut V (ix3 b r j)
    = res V b r j + md V b 5 j * ∑ n : Fin 2048, gate (hid V b r n) * (whole V).f2 n j := by
  simp only [← gate_eq]
  unfold res hid
  pointwise [refOut, Ideal.ofBits_one_f32]
  rw [v1_apply V b 5 j _ (by simp)]
  rfl

/-- A normalised row has real entries when the modulation has. -/
theorem md_real (ht : ∀ b e, IsReal ((whole V).t b e)) (hw : ∀ e k, IsReal ((whole V).wm e k)) (b : Fin 2) (c : Fin 6) (j : Fin 512) : IsReal (md V b c j) :=
  IsReal.sum _ fun e => (ht b e).mul (hw e _)

variable (ht : ∀ b e, IsReal ((whole V).t b e)) (hw : ∀ e k, IsReal ((whole V).wm e k)) (hq : ∀ k n, IsReal ((whole V).wq k n)) (hk : ∀ k n, IsReal ((whole V).wk k n))

include ht hw hq hk in
theorem sc_real (b : Fin 2) (h : Fin 16) (i j : Fin 256) : IsReal (sc V b h i j) := by
  have hx (r : Fin 256) (k : Fin 512) : IsReal (xn V b r k) := lnm_real lit_eps16 _ _ _ _ (md_real V ht hw b 0 k) (md_real V ht hw b 1 k)
  rw [sc_eq V b h i ⟨64 * h.val, by omega⟩ (by show h.val = 64 * h.val / 64; omega)]
  exact (IsReal.sum _ fun d => (IsReal.sum _ fun k => (hx i k).mul (hq k _)).mul (IsReal.sum _ fun k => (hx j k).mul (hk k _))).mul lit_eighth

include ht hw hq hk in
theorem res_eq (b : Fin 2) : res V b = (whole V).res b := by
  funext r j
  show res_main_v75 V (ix3 b r j) = _
  rw [v75_soft]
  unfold Whole.res x1 apart att
  congr 2
  refine Finset.sum_congr rfl fun n _ => ?_
  rw [softq_eq fun i => sc_real V ht hw hq hk b _ r i, sc_eq V b _ r n rfl]
  rfl

include ht hw hq hk in
/-- The reference's result is the whole block's. -/
theorem refOut_apply (b : Fin 2) (r : Fin 256) (j : Fin 512) : refOut V (ix3 b r j) = (whole V).result b r j := by
  rw [refOut_eq]
  unfold Whole.result out fpart
  simp only [hid_eq, res_eq V ht hw hq hk]

end Cert.Val

end
-- ==== Proof.Val.Assemble.lean ====
module

public import proofs.«01_k».proof.Defs
public import proofs.«01_k».proof.Proof.KI.Launch
public import proofs.«01_k».proof.Proof.Val.Result

/-! The launches' arrays: each device's staged inputs as its blocks of the reference's arrays. -/

@[expose] public section

set_option maxRecDepth 16384

noncomputable section

namespace Cert.Val

open Cert.KernelIdeal Cert.KernelIdeal.Gen Cert.KernelIdeal.Ring
open Idealize.ShloMosaic Idealize.ShloMosaic.TcCoe Idealize.ShloMosaic.StableHlo
open scoped BigOperators

variable (m : (ℓ : Loc nD τ sig) → Buf (Elt Ideal) ℓ) (ρ : Dev nD → PrngReg)

/-- A map of indices that starts at zero and steps by one is the identity. -/
theorem emb_id {s : Shape} (e : s.Idx → s.Idx) (h : ∀ i a, (e i a).val = 0 * s.size a + 1 * (i a).val) (i : s.Idx) : e i = i :=
  funext fun a => Fin.ext (by rw [h]; omega)

/-! A staged input is the array it is fetched from. -/

theorem st_x (c : Dev nD) : (stIn m ρ c).x = m ((c.tc : Thread nD τ).loc main_arg0) :=
  funext fun i => congrArg (m ((c.tc : Thread nD τ).loc main_arg0)) (emb_id (s := S2x256x512) (win0_0.blk (0 : Fin 1)).view.emb (fun _ _ => rfl) i)
theorem st_wq (c : Dev nD) : (stIn m ρ c).wq = m ((c.tc : Thread nD τ).loc main_arg1) :=
  funext fun i => congrArg (m ((c.tc : Thread nD τ).loc main_arg1)) (emb_id (s := S512x256) (win0_1.blk (0 : Fin 1)).view.emb (fun _ _ => rfl) i)
theorem st_wk (c : Dev nD) : (stIn m ρ c).wk = m ((c.tc : Thread nD τ).loc main_arg2) :=
  funext fun i => congrArg (m ((c.tc : Thread nD τ).loc main_arg2)) (emb_id (s := S512x256) (win0_2.blk (0 : Fin 1)).view.emb (fun _ _ => rfl) i)
theorem st_wv (c : Dev nD) : (stIn m ρ c).wv = m ((c.tc : Thread nD τ).loc main_arg3) :=
  funext fun i => congrArg (m ((c.tc : Thread nD τ).loc main_arg3)) (emb_id (s := S512x256) (win0_3.blk (0 : Fin 1)).view.emb (fun _ _ => rfl) i)
theorem st_wo (c : Dev nD) : (stIn m ρ c).wo = m ((c.tc : Thread nD τ).loc main_arg4) :=
  funext fun i => congrArg (m ((c.tc : Thread nD τ).loc main_arg4)) (emb_id (s := S256x512) (win0_4.blk (0 : Fin 1)).view.emb (fun _ _ => rfl) i)
theorem st_t (c : Dev nD) : (stIn m ρ c).t = m ((c.tc : Thread nD τ).loc main_arg5) :=
  funext fun i => congrArg (m ((c.tc : Thread nD τ).loc main_arg5)) (emb_id (s := S2x128) (win0_5.blk (0 : Fin 1)).view.emb (fun _ _ => rfl) i)
theorem st_wm (c : Dev nD) : (stIn m ρ c).wm = m ((c.tc : Thread nD τ).loc main_arg6) :=
  funext fun i => congrArg (m ((c.tc : Thread nD τ).loc main_arg6)) (emb_id (s := S128x3072) (win0_6.blk (0 : Fin 1)).view.emb (fun _ _ => rfl) i)
theorem st_f1 (c : Dev nD) : (stIn m ρ c).f1 = m ((c.tc : Thread nD τ).loc main_arg7) :=
  funext fun i => congrArg (m ((c.tc : Thread nD τ).loc main_arg7)) (emb_id (s := S512x512) (win0_7.blk (0 : Fin 1)).view.emb (fun _ _ => rfl) i)
theorem st_f2 (c : Dev nD) : (stIn m ρ c).f2 = m ((c.tc : Thread nD τ).loc main_arg8) :=
  funext fun i => congrArg (m ((c.tc : Thread nD τ).loc main_arg8)) (emb_id (s := S512x512) (win0_8.blk (0 : Fin 1)).view.emb (fun _ _ => rfl) i)

/-- The result's array after a run is what the body left staged. -/
theorem out_eq {r : PUnit × MemSt nD τ sig (Elt Ideal)} (h : QC m ρ r) (c : Dev nD) (i : S2x256x512.Idx) :
    r.2.mem ((c.tc : Thread nD τ).loc main_v1) i = outAt (stIn m ρ) c i :=
  (congrFun (h c (9 : Fin 10)) i).trans <|
    (congrArg (finalA m ρ c (9 : Fin 10)) (emb_id (s := S2x256x512) (win0_9.blk (0 : Fin 1)).view.emb (fun _ _ => rfl) i).symm).trans (congrFun (finalA_out m ρ c) i)

/-! An array cut in four along its columns, or its rows. -/

theorem cols_at {R M N : ℕ} (hN : 4 * M = N) (ht : Layout.Tiles ⟨2, ![R, M]⟩ ⟨2, ![R, N]⟩ 1 4) (c : Fin 4) (v : (⟨2, ![R, N]⟩ : Shape).Idx → EReal) (k : Fin R) (n : Fin M) :
    Layout.block ⟨2, ![R, M]⟩ ⟨2, ![R, N]⟩ 1 4 c v ht (ix2 k n) = v (ix2 k (bcol hN c n)) := by
  rw [Layout.block_apply]
  refine congrArg v (funext fun a => ?_)
  fin_cases a
  · exact Fin.ext (Layout.idx_cols_val ht c (ix2 k n)).1
  · exact Fin.ext (Layout.idx_cols_val ht c (ix2 k n)).2

theorem rows_at {R M N : ℕ} (hN : 4 * M = N) (ht : Layout.Tiles ⟨2, ![M, R]⟩ ⟨2, ![N, R]⟩ 0 4) (c : Fin 4) (v : (⟨2, ![N, R]⟩ : Shape).Idx → EReal) (n : Fin M) (k : Fin R) :
    Layout.block ⟨2, ![M, R]⟩ ⟨2, ![N, R]⟩ 0 4 c v ht (ix2 n k) = v (ix2 (bcol hN c n) k) := by
  rw [Layout.block_apply]
  refine congrArg v (funext fun a => ?_)
  fin_cases a
  · exact Fin.ext (Layout.idx_rows_val ht c (ix2 n k)).1
  · exact Fin.ext (Layout.idx_rows_val ht c (ix2 n k)).2

/-- Every column of the whole is some device's. -/
theorem bcol_surj {M N : ℕ} (h : 4 * M = N) (n : Fin N) : ∃ c l, n = bcol (M := M) h c l := by
  have hn := n.isLt
  have hM : 0 < M := by omega
  refine ⟨⟨n.val / M, (Nat.div_lt_iff_lt_mul hM).mpr (by omega)⟩, ⟨n.val % M, Nat.mod_lt _ hM⟩, Fin.ext ?_⟩
  show n.val = n.val / M * M + n.val % M
  rw [Nat.mul_comm, Nat.div_add_mod]

/-! The precondition: an entry below infinity in absolute value is a real number. -/

theorem real_of_abs {x : EReal} (h : Ideal.cmp .olt (max x (-x)) (Ideal.ofBits .bf16 0x7F80#16) = 1#1) : IsReal x := by
  have h' : max x (-x) < ⊤ := by
    by_contra hc
    rw [lit_top] at h
    simp [Ideal.cmp, hc] at h
  obtain ⟨h1, h2⟩ := max_lt_iff.mp h'
  exact IsReal.of_ne h1.ne fun e => by rw [e] at h2; simp at h2

instance : Cert.Pre_weights_finite_KernelIdeal.Facts := ⟨by decide, by decide, by decide⟩
instance : Cert.Pre_weights_finite_ReferenceIdeal.Facts := ⟨by decide, by decide, by decide⟩

theorem pre_real (h : Cert.Pre_KernelIdeal_weights_finite_KernelIdeal m) (c : Dev nD) :
    (∀ i, IsReal (m ((c.tc : Thread nD τ).loc main_arg1) i)) ∧ (∀ i, IsReal (m ((c.tc : Thread nD τ).loc main_arg2) i))
    ∧ (∀ i, IsReal (m ((c.tc : Thread nD τ).loc main_arg5) i)) ∧ (∀ i, IsReal (m ((c.tc : Thread nD τ).loc main_arg6) i)) :=
  ⟨fun i => real_of_abs (congrFun (h c).1 i), fun i => real_of_abs (congrFun (h c).2.1 i),
    fun i => real_of_abs (congrFun (h c).2.2.1 i), fun i => real_of_abs (congrFun (h c).2.2.2 i)⟩

/-! The two launches together. -/

variable (m' : (ℓ : Loc Cert.ReferenceIdeal.nD Cert.ReferenceIdeal.τ Cert.ReferenceIdeal.sig) → Buf (Elt Ideal) ℓ)

/-- The reference's arrays. -/
abbrev refV : Valuation Cert.ReferenceIdeal.τ Cert.ReferenceIdeal.sig (Elt Ideal) := launchContents m' (0 : Dev Cert.ReferenceIdeal.nD)

/-- Device `c`'s arguments are the reference's, or its blocks of them. -/
def Cut : Prop := ∀ c : Dev nD,
  m ((c.tc : Thread nD τ).loc main_arg0) = ax (refV m')
  ∧ m ((c.tc : Thread nD τ).loc main_arg1) = Layout.block ⟨2, ![512, 256]⟩ ⟨2, ![512, 1024]⟩ 1 4 c (awq (refV m'))
  ∧ m ((c.tc : Thread nD τ).loc main_arg2) = Layout.block ⟨2, ![512, 256]⟩ ⟨2, ![512, 1024]⟩ 1 4 c (awk (refV m'))
  ∧ m ((c.tc : Thread nD τ).loc main_arg3) = Layout.block ⟨2, ![512, 256]⟩ ⟨2, ![512, 1024]⟩ 1 4 c (awv (refV m'))
  ∧ m ((c.tc : Thread nD τ).loc main_arg4) = Layout.block ⟨2, ![256, 512]⟩ ⟨2, ![1024, 512]⟩ 0 4 c (awo (refV m'))
  ∧ m ((c.tc : Thread nD τ).loc main_arg5) = at_ (refV m')
  ∧ m ((c.tc : Thread nD τ).loc main_arg6) = awm (refV m')
  ∧ m ((c.tc : Thread nD τ).loc main_arg7) = Layout.block ⟨2, ![512, 512]⟩ ⟨2, ![512, 2048]⟩ 1 4 c (af1 (refV m'))
  ∧ m ((c.tc : Thread nD τ).loc main_arg8) = Layout.block ⟨2, ![512, 512]⟩ ⟨2, ![2048, 512]⟩ 0 4 c (af2 (refV m'))

variable {m m'}

theorem part (h : Cut m m') (c : Fin 4) : Part (whole (refV m')) c (stIn m ρ c) := by
  obtain ⟨h0, h1, h2, h3, h4, h5, h6, h7, h8⟩ := h c
  refine ⟨fun b r k => ?_, fun k n => ?_, fun k n => ?_, fun k n => ?_, fun n j => ?_, fun b e => ?_, fun e k => ?_, fun k n => ?_, fun n j => ?_⟩
  · rw [st_x, h0]; rfl
  · rw [st_wq, h1]; exact cols_at rfl _ c _ k n
  · rw [st_wk, h2]; exact cols_at rfl _ c _ k n
  · rw [st_wv, h3]; exact cols_at rfl _ c _ k n
  · rw [st_wo, h4]; exact rows_at rfl _ c _ n j
  · rw [st_t, h5]; rfl
  · rw [st_wm, h6]; rfl
  · rw [st_f1, h7]; exact cols_at rfl _ c _ k n
  · rw [st_f2, h8]; exact rows_at rfl _ c _ n j

/-- What the kernel leaves in each device's result array is the reference's result. -/
theorem kernel_result (hp : Cert.Pre_KernelIdeal_weights_finite_KernelIdeal m) (h : Cut m m') {r : PUnit × MemSt nD τ sig (Elt Ideal)} (hr : QC m ρ r)
    (c : Dev nD) : r.2.mem ((c.tc : Thread nD τ).loc main_v1) = refOut (refV m') := by
  have hq : ∀ k n, IsReal ((whole (refV m')).wq k n) := fun k n => by
    obtain ⟨d, l, rfl⟩ := bcol_surj (M := 256) rfl n
    rw [← (part ρ h d).wq, st_wq]; exact (pre_real m hp d).1 _
  have hk : ∀ k n, IsReal ((whole (refV m')).wk k n) := fun k n => by
    obtain ⟨d, l, rfl⟩ := bcol_surj (M := 256) rfl n
    rw [← (part ρ h d).wk, st_wk]; exact (pre_real m hp d).2.1 _
  have ht : ∀ b e, IsReal ((whole (refV m')).t b e) := fun b e => by
    rw [← (part ρ h 0).t, st_t]; exact (pre_real m hp 0).2.2.1 _
  have hw : ∀ e k, IsReal ((whole (refV m')).wm e k) := fun e k => by
    rw [← (part ρ h 0).wm, st_wm]; exact (pre_real m hp 0).2.2.2 _
  funext i
  rw [out_eq m ρ hr]
  have hi : i = ix3 (i 0) (i 1) (i 2) := by funext a; fin_cases a <;> rfl
  rw [hi]
  exact (outAt_apply (part ρ h) c (i 0) (i 1) (i 2)).trans (refOut_apply (refV m') ht hw hq hk (i 0) (i 1) (i 2)).symm

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Launch
public import proofs.«01_k».proof.Proof.KI.Launch
public import proofs.«01_k».proof.Proof.Val.Assemble
public import Idealize.ShloMosaic.Lib.Quiescent
public import Idealize.ShloMosaic.Adequacy
public import Idealize.ShloMosaic.Init

@[expose] public section

noncomputable section

namespace Cert.Proof

open Idealize.ShloMosaic Idealize.SL.Sem

/-- The kernel at its machine floats: it ends, its arguments are kept, every counter reads zero. -/
theorem frame_kernel : @Cert.quiescent_Kernel Cert.Kernel.Gen.facts := by
  intro m ρ _
  exact (θ_run Cert.Kernel.defs _ _).mono (fun _ h => ⟨Cert.Kernel.Ring.args_kept m ρ h.1, h.2⟩) (Cert.Kernel.Ring.run_main (F := Bits) m ρ)

/-- The same of the kernel read over the extended reals. -/
theorem frame_ideal : @Cert.quiescent_KernelIdeal Cert.KernelIdeal.Gen.facts := by
  intro m ρ _
  exact (θ_run Cert.KernelIdeal.defs _ _).mono (fun _ h => ⟨Cert.KernelIdeal.Ring.args_kept m ρ h.1, h.2⟩) (Cert.KernelIdeal.Ring.run_main (F := Ideal) m ρ)

/-- The reference, which has no semaphores at all. -/
theorem frame_reference : @Cert.quiescent_ReferenceIdeal Cert.ReferenceIdeal.Gen.facts := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Under the precondition every device's result is the reference's. -/
theorem equal : @Cert.algebraic_KernelIdeal_ReferenceIdeal_pre_weights_finite_KernelIdeal Cert.KernelIdeal.Gen.facts Cert.ReferenceIdeal.Gen.facts inferInstance := by
  intro m g m' g' hp h
  refine ⟨Cert.Val.refOut (Cert.Val.refV m'), ?_, ?_⟩
  · exact (θ_run Cert.KernelIdeal.defs _ _).mono
      (fun _ hr c => ⟨Cert.Val.kernel_result g hp h hr.1 c, Cert.KernelIdeal.Ring.args_kept m g hr.1 c⟩) (Cert.KernelIdeal.Ring.run_main (F := Ideal) m g)
  · exact (θ_run Cert.ReferenceIdeal.defs _ _).mono (fun _ hr => hr 0) (Cert.ReferenceIdeal.Value.run (F := Ideal) m' g')

/-- Everything stated. -/
theorem claim : Cert.Claim :=
  ⟨Cert.Kernel.Gen.facts, Cert.KernelIdeal.Gen.facts, Cert.ReferenceIdeal.Gen.facts, inferInstance, inferInstance,
    frame_kernel, frame_ideal, fun m g _ => frame_ideal m g trivial, frame_reference, fun m g _ => frame_reference m g trivial, trivial, equal⟩

end Cert.Proof

end
